-- ==== Defs.lean ====
def Pre_Wprep (m : (ℓ : Loc Cert.Wprep.nD Cert.Wprep.τ Cert.Wprep.sig) → Buf (Elt Bits) ℓ) : Prop :=
  True

def Pre_WprepIdeal (m : (ℓ : Loc Cert.WprepIdeal.nD Cert.WprepIdeal.τ Cert.WprepIdeal.sig) → Buf (Elt Ideal) ℓ) : Prop :=
  True

def Pre_WprepRefIdeal (m : (ℓ : Loc Cert.WprepRefIdeal.nD Cert.WprepRefIdeal.τ Cert.WprepRefIdeal.sig) → Buf (Elt Ideal) ℓ) : Prop :=
  True

def Pre_WprepRef (m : (ℓ : Loc Cert.WprepRef.nD Cert.WprepRef.τ Cert.WprepRef.sig) → Buf (Elt Bits) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def Pre_Dn (m : (ℓ : Loc Cert.Dn.nD Cert.Dn.τ Cert.Dn.sig) → Buf (Elt Bits) ℓ) : Prop :=
  True

def Pre_DnIdeal (m : (ℓ : Loc Cert.DnIdeal.nD Cert.DnIdeal.τ Cert.DnIdeal.sig) → Buf (Elt Ideal) ℓ) : Prop :=
  True

def Pre_DnRefIdeal (m : (ℓ : Loc Cert.DnRefIdeal.nD Cert.DnRefIdeal.τ Cert.DnRefIdeal.sig) → Buf (Elt Ideal) ℓ) : Prop :=
  True

def quiescent_Wprep [hWprep : Cert.Wprep.Facts] : Prop :=
  ∀ (m : (ℓ : Loc Cert.Wprep.nD Cert.Wprep.τ Cert.Wprep.sig) → Buf (Elt Bits) ℓ) (g : Dev Cert.Wprep.nD → PrngReg), Pre_Wprep m →
    θ_run (Cert.Wprep.defs (F := Bits)) (onTc (τ := Cert.Wprep.τ) (Cert.Wprep.main (F := Bits))) ⟨m, fun _ => 0, g⟩ (fun r => (∀ c : Dev Cert.Wprep.nD,
      r.2.mem ((c.tc : Thread Cert.Wprep.nD Cert.Wprep.τ).loc Cert.Wprep.main_arg0) = m ((c.tc : Thread Cert.Wprep.nD Cert.Wprep.τ).loc Cert.Wprep.main_arg0))
      ∧ r.2.sem = fun _ => 0)

def quiescent_WprepIdeal [hWprepIdeal : Cert.WprepIdeal.Facts] : Prop :=
  ∀ (m : (ℓ : Loc Cert.WprepIdeal.nD Cert.WprepIdeal.τ Cert.WprepIdeal.sig) → Buf (Elt Ideal) ℓ) (g : Dev Cert.WprepIdeal.nD → PrngReg), Pre_WprepIdeal m →
    θ_run (Cert.WprepIdeal.defs (F := Ideal)) (onTc (τ := Cert.WprepIdeal.τ) (Cert.WprepIdeal.main (F := Ideal))) ⟨m, fun _ => 0, g⟩ (fun r => (∀ c : Dev Cert.WprepIdeal.nD,
      r.2.mem ((c.tc : Thread Cert.WprepIdeal.nD Cert.WprepIdeal.τ).loc Cert.WprepIdeal.main_arg0) = m ((c.tc : Thread Cert.WprepIdeal.nD Cert.WprepIdeal.τ).loc Cert.WprepIdeal.main_arg0))
      ∧ r.2.sem = fun _ => 0)

def quiescent_WprepRefIdeal [hWprepRefIdeal : Cert.WprepRefIdeal.Facts] : Prop :=
  ∀ (m : (ℓ : Loc Cert.WprepRefIdeal.nD Cert.WprepRefIdeal.τ Cert.WprepRefIdeal.sig) → Buf (Elt Ideal) ℓ) (g : Dev Cert.WprepRefIdeal.nD → PrngReg), Pre_WprepRefIdeal m →
    θ_run (Cert.WprepRefIdeal.defs (F := Ideal)) (onTc (τ := Cert.WprepRefIdeal.τ) (Cert.WprepRefIdeal.main (F := Ideal))) ⟨m, fun _ => 0, g⟩ (fun r => (∀ c : Dev Cert.WprepRefIdeal.nD,
      r.2.mem ((c.tc : Thread Cert.WprepRefIdeal.nD Cert.WprepRefIdeal.τ).loc Cert.WprepRefIdeal.main_arg0) = m ((c.tc : Thread Cert.WprepRefIdeal.nD Cert.WprepRefIdeal.τ).loc Cert.WprepRefIdeal.main_arg0))
      ∧ r.2.sem = fun _ => 0)

def quiescent_WprepRef [hWprepRef : Cert.WprepRef.Facts] : Prop :=
  ∀ (m : (ℓ : Loc Cert.WprepRef.nD Cert.WprepRef.τ Cert.WprepRef.sig) → Buf (Elt Bits) ℓ) (g : Dev Cert.WprepRef.nD → PrngReg), Pre_WprepRef m →
    θ_run (Cert.WprepRef.defs (F := Bits)) (onTc (τ := Cert.WprepRef.τ) (Cert.WprepRef.main (F := Bits))) ⟨m, fun _ => 0, g⟩ (fun r => (∀ c : Dev Cert.WprepRef.nD,
      r.2.mem ((c.tc : Thread Cert.WprepRef.nD Cert.WprepRef.τ).loc Cert.WprepRef.main_arg0) = m ((c.tc : Thread Cert.WprepRef.nD Cert.WprepRef.τ).loc Cert.WprepRef.main_arg0))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7)
      ∧ r.2.mem ((c.tc : Thread Cert.Dense.nD Cert.Dense.τ).loc Cert.Dense.main_arg8) = m ((c.tc : Thread Cert.Dense.nD Cert.Dense.τ).loc Cert.Dense.main_arg8)
      ∧ r.2.mem ((c.tc : Thread Cert.Dense.nD Cert.Dense.τ).loc Cert.Dense.main_arg9) = m ((c.tc : Thread Cert.Dense.nD Cert.Dense.τ).loc Cert.Dense.main_arg9)
      ∧ r.2.mem ((c.tc : Thread Cert.Dense.nD Cert.Dense.τ).loc Cert.Dense.main_arg10) = m ((c.tc : Thread Cert.Dense.nD Cert.Dense.τ).loc Cert.Dense.main_arg10))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
      ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9)
      ∧ r.2.mem ((c.tc : Thread Cert.DenseIdeal.nD Cert.DenseIdeal.τ).loc Cert.DenseIdeal.main_arg10) = m ((c.tc : Thread Cert.DenseIdeal.nD Cert.DenseIdeal.τ).loc Cert.DenseIdeal.main_arg10))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5)
      ∧ r.2.mem ((c.tc : Thread Cert.DenseRefIdeal.nD Cert.DenseRefIdeal.τ).loc Cert.DenseRefIdeal.main_arg6) = m ((c.tc : Thread Cert.DenseRefIdeal.nD Cert.DenseRefIdeal.τ).loc Cert.DenseRefIdeal.main_arg6)
      ∧ r.2.mem ((c.tc : Thread Cert.DenseRefIdeal.nD Cert.DenseRefIdeal.τ).loc Cert.DenseRefIdeal.main_arg7) = m ((c.tc : Thread Cert.DenseRefIdeal.nD Cert.DenseRefIdeal.τ).loc Cert.DenseRefIdeal.main_arg7)
      ∧ r.2.mem ((c.tc : Thread Cert.DenseRefIdeal.nD Cert.DenseRefIdeal.τ).loc Cert.DenseRefIdeal.main_arg8) = m ((c.tc : Thread Cert.DenseRefIdeal.nD Cert.DenseRefIdeal.τ).loc Cert.DenseRefIdeal.main_arg8)
      ∧ r.2.mem ((c.tc : Thread Cert.DenseRefIdeal.nD Cert.DenseRefIdeal.τ).loc Cert.DenseRefIdeal.main_arg9) = m ((c.tc : Thread Cert.DenseRefIdeal.nD Cert.DenseRefIdeal.τ).loc Cert.DenseRefIdeal.main_arg9)
      ∧ r.2.mem ((c.tc : Thread Cert.DenseRefIdeal.nD Cert.DenseRefIdeal.τ).loc Cert.DenseRefIdeal.main_arg10) = m ((c.tc : Thread Cert.DenseRefIdeal.nD Cert.DenseRefIdeal.τ).loc Cert.DenseRefIdeal.main_arg10))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7))
      ∧ r.2.sem = fun _ => 0)

def quiescent_Dn [hDn : Cert.Dn.Facts] : Prop :=
  ∀ (m : (ℓ : Loc Cert.Dn.nD Cert.Dn.τ Cert.Dn.sig) → Buf (Elt Bits) ℓ) (g : Dev Cert.Dn.nD → PrngReg), Pre_Dn m →
    θ_run (Cert.Dn.defs (F := Bits)) (onTc (τ := Cert.Dn.τ) (Cert.Dn.main (F := Bits))) ⟨m, fun _ => 0, g⟩ (fun r => (∀ c : Dev Cert.Dn.nD,
      r.2.mem ((c.tc : Thread Cert.Dn.nD Cert.Dn.τ).loc Cert.Dn.main_arg0) = m ((c.tc : Thread Cert.Dn.nD Cert.Dn.τ).loc Cert.Dn.main_arg0)
      ∧ r.2.mem ((c.tc : Thread Cert.Dn.nD Cert.Dn.τ).loc Cert.Dn.main_arg1) = m ((c.tc : Thread Cert.Dn.nD Cert.Dn.τ).loc Cert.Dn.main_arg1)
      ∧ r.2.mem ((c.tc : Thread Cert.Dn.nD Cert.Dn.τ).loc Cert.Dn.main_arg2) = m ((c.tc : Thread Cert.Dn.nD Cert.Dn.τ).loc Cert.Dn.main_arg2)
      ∧ r.2.mem ((c.tc : Thread Cert.Dn.nD Cert.Dn.τ).loc Cert.Dn.main_arg3) = m ((c.tc : Thread Cert.Dn.nD Cert.Dn.τ).loc Cert.Dn.main_arg3)
      ∧ r.2.mem ((c.tc : Thread Cert.Dn.nD Cert.Dn.τ).loc Cert.Dn.main_arg4) = m ((c.tc : Thread Cert.Dn.nD Cert.Dn.τ).loc Cert.Dn.main_arg4)
      ∧ r.2.mem ((c.tc : Thread Cert.Dn.nD Cert.Dn.τ).loc Cert.Dn.main_arg5) = m ((c.tc : Thread Cert.Dn.nD Cert.Dn.τ).loc Cert.Dn.main_arg5))
      ∧ r.2.sem = fun _ => 0)

def quiescent_DnIdeal [hDnIdeal : Cert.DnIdeal.Facts] : Prop :=
  ∀ (m : (ℓ : Loc Cert.DnIdeal.nD Cert.DnIdeal.τ Cert.DnIdeal.sig) → Buf (Elt Ideal) ℓ) (g : Dev Cert.DnIdeal.nD → PrngReg), Pre_DnIdeal m →
    θ_run (Cert.DnIdeal.defs (F := Ideal)) (onTc (τ := Cert.DnIdeal.τ) (Cert.DnIdeal.main (F := Ideal))) ⟨m, fun _ => 0, g⟩ (fun r => (∀ c : Dev Cert.DnIdeal.nD,
      r.2.mem ((c.tc : Thread Cert.DnIdeal.nD Cert.DnIdeal.τ).loc Cert.DnIdeal.main_arg0) = m ((c.tc : Thread Cert.DnIdeal.nD Cert.DnIdeal.τ).loc Cert.DnIdeal.main_arg0)
      ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
      ∧ r.2.mem ((c.tc : Thread Cert.DnIdeal.nD Cert.DnIdeal.τ).loc Cert.DnIdeal.main_arg2) = m ((c.tc : Thread Cert.DnIdeal.nD Cert.DnIdeal.τ).loc Cert.DnIdeal.main_arg2)
      ∧ r.2.mem ((c.tc : Thread Cert.DnIdeal.nD Cert.DnIdeal.τ).loc Cert.DnIdeal.main_arg3) = m ((c.tc : Thread Cert.DnIdeal.nD Cert.DnIdeal.τ).loc Cert.DnIdeal.main_arg3)
      ∧ r.2.mem ((c.tc : Thread Cert.DnIdeal.nD Cert.DnIdeal.τ).loc Cert.DnIdeal.main_arg4) = m ((c.tc : Thread Cert.DnIdeal.nD Cert.DnIdeal.τ).loc Cert.DnIdeal.main_arg4)
      ∧ r.2.mem ((c.tc : Thread Cert.DnIdeal.nD Cert.DnIdeal.τ).loc Cert.DnIdeal.main_arg5) = m ((c.tc : Thread Cert.DnIdeal.nD Cert.DnIdeal.τ).loc Cert.DnIdeal.main_arg5))
      ∧ r.2.sem = fun _ => 0)

def quiescent_DnRefIdeal [hDnRefIdeal : Cert.DnRefIdeal.Facts] : Prop :=
  ∀ (m : (ℓ : Loc Cert.DnRefIdeal.nD Cert.DnRefIdeal.τ Cert.DnRefIdeal.sig) → Buf (Elt Ideal) ℓ) (g : Dev Cert.DnRefIdeal.nD → PrngReg), Pre_DnRefIdeal m →
    θ_run (Cert.DnRefIdeal.defs (F := Ideal)) (onTc (τ := Cert.DnRefIdeal.τ) (Cert.DnRefIdeal.main (F := Ideal))) ⟨m, fun _ => 0, g⟩ (fun r => (∀ c : Dev Cert.DnRefIdeal.nD,
      r.2.mem ((c.tc : Thread Cert.DnRefIdeal.nD Cert.DnRefIdeal.τ).loc Cert.DnRefIdeal.main_arg0) = m ((c.tc : Thread Cert.DnRefIdeal.nD Cert.DnRefIdeal.τ).loc Cert.DnRefIdeal.main_arg0)
      ∧ r.2.mem ((c.tc : Thread Cert.DnRefIdeal.nD Cert.DnRefIdeal.τ).loc Cert.DnRefIdeal.main_arg1) = m ((c.tc : Thread Cert.DnRefIdeal.nD Cert.DnRefIdeal.τ).loc Cert.DnRefIdeal.main_arg1)
      ∧ r.2.mem ((c.tc : Thread Cert.DnRefIdeal.nD Cert.DnRefIdeal.τ).loc Cert.DnRefIdeal.main_arg2) = m ((c.tc : Thread Cert.DnRefIdeal.nD Cert.DnRefIdeal.τ).loc Cert.DnRefIdeal.main_arg2)
      ∧ r.2.mem ((c.tc : Thread Cert.DnRefIdeal.nD Cert.DnRefIdeal.τ).loc Cert.DnRefIdeal.main_arg3) = m ((c.tc : Thread Cert.DnRefIdeal.nD Cert.DnRefIdeal.τ).loc Cert.DnRefIdeal.main_arg3)
      ∧ r.2.mem ((c.tc : Thread Cert.DnRefIdeal.nD Cert.DnRefIdeal.τ).loc Cert.DnRefIdeal.main_arg4) = m ((c.tc : Thread Cert.DnRefIdeal.nD Cert.DnRefIdeal.τ).loc Cert.DnRefIdeal.main_arg4)
      ∧ r.2.mem ((c.tc : Thread Cert.DnRefIdeal.nD Cert.DnRefIdeal.τ).loc Cert.DnRefIdeal.main_arg5) = m ((c.tc : Thread Cert.DnRefIdeal.nD Cert.DnRefIdeal.τ).loc Cert.DnRefIdeal.main_arg5))
      ∧ r.2.sem = fun _ => 0)

def preserves_Wprep_WprepIdeal : Prop :=
  True

def algebraic_WprepIdeal_WprepRefIdeal [hWprepIdeal : Cert.WprepIdeal.Facts] [hWprepRefIdeal : Cert.WprepRefIdeal.Facts] : Prop :=
  ∀ (m : (ℓ : Loc Cert.WprepIdeal.nD Cert.WprepIdeal.τ Cert.WprepIdeal.sig) → Buf (Elt Ideal) ℓ) (g : Dev Cert.WprepIdeal.nD → PrngReg)
    (m' : (ℓ : Loc Cert.WprepRefIdeal.nD Cert.WprepRefIdeal.τ Cert.WprepRefIdeal.sig) → Buf (Elt Ideal) ℓ) (g' : Dev Cert.WprepRefIdeal.nD → PrngReg), Pre_WprepIdeal m →
    (∀ c : Dev Cert.WprepIdeal.nD,
      m' ((c.tc : Thread Cert.WprepRefIdeal.nD Cert.WprepRefIdeal.τ).loc Cert.WprepRefIdeal.main_arg0) = m ((c.tc : Thread Cert.WprepIdeal.nD Cert.WprepIdeal.τ).loc Cert.WprepIdeal.main_arg0)) →
    ∃ (v0 : (c : Dev Cert.WprepIdeal.nD) → Buf (Elt Ideal) ((c.tc : Thread Cert.WprepIdeal.nD Cert.WprepIdeal.τ).loc Cert.WprepIdeal.main_v2_0)) (v1 : (c : Dev Cert.WprepIdeal.nD) → Buf (Elt Ideal) ((c.tc : Thread Cert.WprepIdeal.nD Cert.WprepIdeal.τ).loc Cert.WprepIdeal.main_v2_1)),
      θ_run (Cert.WprepIdeal.defs (F := Ideal)) (onTc (τ := Cert.WprepIdeal.τ) (Cert.WprepIdeal.main (F := Ideal))) ⟨m, fun _ => 0, g⟩ (fun r => ∀ c : Dev Cert.WprepIdeal.nD,
          r.2.mem ((c.tc : Thread Cert.WprepIdeal.nD Cert.WprepIdeal.τ).loc Cert.WprepIdeal.main_v2_0) = v0 c
          ∧ r.2.mem ((c.tc : Thread Cert.WprepIdeal.nD Cert.WprepIdeal.τ).loc Cert.WprepIdeal.main_v2_1) = v1 c
          ∧ r.2.mem ((c.tc : Thread Cert.WprepIdeal.nD Cert.WprepIdeal.τ).loc Cert.WprepIdeal.main_arg0) = m ((c.tc : Thread Cert.WprepIdeal.nD Cert.WprepIdeal.τ).loc Cert.WprepIdeal.main_arg0))
      ∧ θ_run (Cert.WprepRefIdeal.defs (F := Ideal)) (onTc (τ := Cert.WprepRefIdeal.τ) (Cert.WprepRefIdeal.main (F := Ideal))) ⟨m', fun _ => 0, g'⟩ (fun r => ∀ c : Dev Cert.WprepRefIdeal.nD,
          r.2.mem ((c.tc : Thread Cert.WprepRefIdeal.nD Cert.WprepRefIdeal.τ).loc Cert.WprepRefIdeal.main_v12) = v0 c
          ∧ r.2.mem ((c.tc : Thread Cert.WprepRefIdeal.nD Cert.WprepRefIdeal.τ).loc Cert.WprepRefIdeal.main_v13) = v1 c
          ∧ r.2.mem ((c.tc : Thread Cert.WprepRefIdeal.nD Cert.WprepRefIdeal.τ).loc Cert.WprepRefIdeal.main_arg0) = m' ((c.tc : Thread Cert.WprepRefIdeal.nD Cert.WprepRefIdeal.τ).loc Cert.WprepRefIdeal.main_arg0))

def bitexact_Wprep_WprepRef [hWprep : Cert.Wprep.Facts] [hWprepRef : Cert.WprepRef.Facts] : Prop :=
  ∀ (m : (ℓ : Loc Cert.Wprep.nD Cert.Wprep.τ Cert.Wprep.sig) → Buf (Elt Bits) ℓ) (g : Dev Cert.Wprep.nD → PrngReg)
    (m' : (ℓ : Loc Cert.WprepRef.nD Cert.WprepRef.τ Cert.WprepRef.sig) → Buf (Elt Bits) ℓ) (g' : Dev Cert.WprepRef.nD → PrngReg), Pre_Wprep m →
    (∀ c : Dev Cert.Wprep.nD,
      m' ((c.tc : Thread Cert.WprepRef.nD Cert.WprepRef.τ).loc Cert.WprepRef.main_arg0) = m ((c.tc : Thread Cert.Wprep.nD Cert.Wprep.τ).loc Cert.Wprep.main_arg0)) →
    ∃ (v0 : (c : Dev Cert.Wprep.nD) → Buf (Elt Bits) ((c.tc : Thread Cert.Wprep.nD Cert.Wprep.τ).loc Cert.Wprep.main_v2_0)) (v1 : (c : Dev Cert.Wprep.nD) → Buf (Elt Bits) ((c.tc : Thread Cert.Wprep.nD Cert.Wprep.τ).loc Cert.Wprep.main_v2_1)),
      θ_run (Cert.Wprep.defs (F := Bits)) (onTc (τ := Cert.Wprep.τ) (Cert.Wprep.main (F := Bits))) ⟨m, fun _ => 0, g⟩ (fun r => ∀ c : Dev Cert.Wprep.nD,
          r.2.mem ((c.tc : Thread Cert.Wprep.nD Cert.Wprep.τ).loc Cert.Wprep.main_v2_0) = v0 c
          ∧ r.2.mem ((c.tc : Thread Cert.Wprep.nD Cert.Wprep.τ).loc Cert.Wprep.main_v2_1) = v1 c
          ∧ r.2.mem ((c.tc : Thread Cert.Wprep.nD Cert.Wprep.τ).loc Cert.Wprep.main_arg0) = m ((c.tc : Thread Cert.Wprep.nD Cert.Wprep.τ).loc Cert.Wprep.main_arg0))
      ∧ θ_run (Cert.WprepRef.defs (F := Bits)) (onTc (τ := Cert.WprepRef.τ) (Cert.WprepRef.main (F := Bits))) ⟨m', fun _ => 0, g'⟩ (fun r => ∀ c : Dev Cert.WprepRef.nD,
          r.2.mem ((c.tc : Thread Cert.WprepRef.nD Cert.WprepRef.τ).loc Cert.WprepRef.main_v12) = v0 c
          ∧ r.2.mem ((c.tc : Thread Cert.WprepRef.nD Cert.WprepRef.τ).loc Cert.WprepRef.main_v13) = v1 c
          ∧ r.2.mem ((c.tc : Thread Cert.WprepRef.nD Cert.WprepRef.τ).loc Cert.WprepRef.main_arg0) = m' ((c.tc : Thread Cert.WprepRef.nD Cert.WprepRef.τ).loc Cert.WprepRef.main_arg0))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)
      ∧ m' ((c.tc : Thread Cert.DenseRefIdeal.nD Cert.DenseRefIdeal.τ).loc Cert.DenseRefIdeal.main_arg6) = m ((c.tc : Thread Cert.DenseIdeal.nD Cert.DenseIdeal.τ).loc Cert.DenseIdeal.main_arg6)
      ∧ m' ((c.tc : Thread Cert.DenseRefIdeal.nD Cert.DenseRefIdeal.τ).loc Cert.DenseRefIdeal.main_arg7) = m ((c.tc : Thread Cert.DenseIdeal.nD Cert.DenseIdeal.τ).loc Cert.DenseIdeal.main_arg7)
      ∧ m' ((c.tc : Thread Cert.DenseRefIdeal.nD Cert.DenseRefIdeal.τ).loc Cert.DenseRefIdeal.main_arg8) = m ((c.tc : Thread Cert.DenseIdeal.nD Cert.DenseIdeal.τ).loc Cert.DenseIdeal.main_arg8)
      ∧ m' ((c.tc : Thread Cert.DenseRefIdeal.nD Cert.DenseRefIdeal.τ).loc Cert.DenseRefIdeal.main_arg9) = m ((c.tc : Thread Cert.DenseIdeal.nD Cert.DenseIdeal.τ).loc Cert.DenseIdeal.main_arg9)
      ∧ m' ((c.tc : Thread Cert.DenseRefIdeal.nD Cert.DenseRefIdeal.τ).loc Cert.DenseRefIdeal.main_arg10) = m ((c.tc : Thread Cert.DenseIdeal.nD Cert.DenseIdeal.τ).loc Cert.DenseIdeal.main_arg10)) →
    ∃ (v0 : (c : Dev Cert.DenseIdeal.nD) → Buf (Elt Ideal) ((c.tc : Thread Cert.DenseIdeal.nD Cert.DenseIdeal.τ).loc Cert.DenseIdeal.main_v16)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v16) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
          ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
          ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9)
          ∧ r.2.mem ((c.tc : Thread Cert.DenseIdeal.nD Cert.DenseIdeal.τ).loc Cert.DenseIdeal.main_arg10) = m ((c.tc : Thread Cert.DenseIdeal.nD Cert.DenseIdeal.τ).loc Cert.DenseIdeal.main_arg10))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v72) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5)
          ∧ r.2.mem ((c.tc : Thread Cert.DenseRefIdeal.nD Cert.DenseRefIdeal.τ).loc Cert.DenseRefIdeal.main_arg6) = m' ((c.tc : Thread Cert.DenseRefIdeal.nD Cert.DenseRefIdeal.τ).loc Cert.DenseRefIdeal.main_arg6)
          ∧ r.2.mem ((c.tc : Thread Cert.DenseRefIdeal.nD Cert.DenseRefIdeal.τ).loc Cert.DenseRefIdeal.main_arg7) = m' ((c.tc : Thread Cert.DenseRefIdeal.nD Cert.DenseRefIdeal.τ).loc Cert.DenseRefIdeal.main_arg7)
          ∧ r.2.mem ((c.tc : Thread Cert.DenseRefIdeal.nD Cert.DenseRefIdeal.τ).loc Cert.DenseRefIdeal.main_arg8) = m' ((c.tc : Thread Cert.DenseRefIdeal.nD Cert.DenseRefIdeal.τ).loc Cert.DenseRefIdeal.main_arg8)
          ∧ r.2.mem ((c.tc : Thread Cert.DenseRefIdeal.nD Cert.DenseRefIdeal.τ).loc Cert.DenseRefIdeal.main_arg9) = m' ((c.tc : Thread Cert.DenseRefIdeal.nD Cert.DenseRefIdeal.τ).loc Cert.DenseRefIdeal.main_arg9)
          ∧ r.2.mem ((c.tc : Thread Cert.DenseRefIdeal.nD Cert.DenseRefIdeal.τ).loc Cert.DenseRefIdeal.main_arg10) = m' ((c.tc : Thread Cert.DenseRefIdeal.nD Cert.DenseRefIdeal.τ).loc Cert.DenseRefIdeal.main_arg10))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v6_0)) (v1 : (c : Dev Cert.InprojIdeal.nD) → Buf (Elt Ideal) ((c.tc : Thread Cert.InprojIdeal.nD Cert.InprojIdeal.τ).loc Cert.InprojIdeal.main_v6_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v6_0) = v0 c
          ∧ r.2.mem ((c.tc : Thread Cert.InprojIdeal.nD Cert.InprojIdeal.τ).loc Cert.InprojIdeal.main_v6_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v24) = v0 c
          ∧ r.2.mem ((c.tc : Thread Cert.InprojRefIdeal.nD Cert.InprojRefIdeal.τ).loc Cert.InprojRefIdeal.main_v25) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Ssd_SsdIdeal : Prop :=
  True

def preserves_Dn_DnIdeal : Prop :=
  True

def Claim : Prop :=
  ∃ (hWprep : Cert.Wprep.Facts) (hWprepIdeal : Cert.WprepIdeal.Facts) (hWprepRefIdeal : Cert.WprepRefIdeal.Facts) (hWprepRef : Cert.WprepRef.Facts) (hDense : Cert.Dense.Facts) (hDenseIdeal : Cert.DenseIdeal.Facts) (hDenseRefIdeal : Cert.DenseRefIdeal.Facts) (hInproj : Cert.Inproj.Facts) (hInprojIdeal : Cert.InprojIdeal.Facts) (hInprojRefIdeal : Cert.InprojRefIdeal.Facts) (hSsd : Cert.Ssd.Facts) (hSsdIdeal : Cert.SsdIdeal.Facts) (hSsdRefIdeal : Cert.SsdRefIdeal.Facts) (hDn : Cert.Dn.Facts) (hDnIdeal : Cert.DnIdeal.Facts) (hDnRefIdeal : Cert.DnRefIdeal.Facts),
    quiescent_Wprep (hWprep := hWprep)
    ∧ quiescent_WprepIdeal (hWprepIdeal := hWprepIdeal)
    ∧ quiescent_WprepRefIdeal (hWprepRefIdeal := hWprepRefIdeal)
    ∧ quiescent_WprepRef (hWprepRef := hWprepRef)
    ∧ quiescent_Dense (hDense := hDense)
    ∧ quiescent_DenseIdeal (hDenseIdeal := hDenseIdeal)
    ∧ quiescent_DenseRefIdeal (hDenseRefIdeal := hDenseRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Ssd (hSsd := hSsd)
    ∧ quiescent_SsdIdeal (hSsdIdeal := hSsdIdeal)
    ∧ quiescent_SsdRefIdeal (hSsdRefIdeal := hSsdRefIdeal)
    ∧ quiescent_Dn (hDn := hDn)
    ∧ quiescent_DnIdeal (hDnIdeal := hDnIdeal)
    ∧ quiescent_DnRefIdeal (hDnRefIdeal := hDnRefIdeal)
    ∧ preserves_Wprep_WprepIdeal
    ∧ algebraic_WprepIdeal_WprepRefIdeal (hWprepIdeal := hWprepIdeal) (hWprepRefIdeal := hWprepRefIdeal)
    ∧ bitexact_Wprep_WprepRef (hWprep := hWprep) (hWprepRef := hWprepRef)
    ∧ preserves_Dense_DenseIdeal
    ∧ algebraic_DenseIdeal_DenseRefIdeal (hDenseIdeal := hDenseIdeal) (hDenseRefIdeal := hDenseRefIdeal)
    ∧ preserves_Inproj_InprojIdeal
    ∧ algebraic_InprojIdeal_InprojRefIdeal (hInprojIdeal := hInprojIdeal) (hInprojRefIdeal := hInprojRefIdeal)
    ∧ preserves_Ssd_SsdIdeal
    ∧ preserves_Dn_DnIdeal
-- ==== Wprep.lean ====
abbrev S1x1024x13376 : Shape := ⟨3, ![1, 1024, 13376]⟩
abbrev S26 : Shape := ⟨1, ![26]⟩
abbrev S1024x13376 : Shape := ⟨2, ![1024, 13376]⟩
abbrev S13376x1024 : Shape := ⟨2, ![13376, 1024]⟩
abbrev S1024x13312 : Shape := ⟨2, ![1024, 13312]⟩
abbrev S1024x128 : Shape := ⟨2, ![1024, 128]⟩
abbrev S512x1024 : Shape := ⟨2, ![512, 1024]⟩
abbrev S1 : Shape := ⟨1, ![1]⟩
abbrev S32x1024 : Shape := ⟨2, ![32, 1024]⟩
abbrev S1024x512 : Shape := ⟨2, ![1024, 512]⟩
abbrev S64x1024 : Shape := ⟨2, ![64, 1024]⟩
abbrev S128x1024 : Shape := ⟨2, ![128, 1024]⟩

abbrev nBuf : Space → Nat
  | .hbm => 5
  | .vmem => 7
  | .smem => 1
  | _ => 0

abbrev bufTy : (tb : Table) → Fin (tcTables nBuf tb) → BufTy
  | .hbm, ⟨0, _⟩ => ⟨S1x1024x13376, .f32⟩
  | .hbm, ⟨1, _⟩ => ⟨S1024x13376, .f32⟩
  | .hbm, ⟨2, _⟩ => ⟨S13376x1024, .f32⟩
  | .hbm, ⟨3, _⟩ => ⟨S1024x13312, .bf16⟩
  | .hbm, ⟨4, _⟩ => ⟨S1024x128, .bf16⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S1024x512, .bf16⟩
  | .local _ .vmem, ⟨5, _⟩ => ⟨S1024x512, .bf16⟩
  | .local _ .vmem, ⟨6, _⟩ => ⟨S1024x128, .bf16⟩
  | .local _ .smem, ⟨0, _⟩ => ⟨S26, .i32⟩
  | _, _ => ⟨S1x1024x13376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![26], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  v1

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def cc0_transform_0 (k0_off1_inb : ∀ i : grid0.Coords, ∀ a, (k0_off1 i) a + S1.size a ≤ S26.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S26) ![v0.toNat] S1.size (k0_off1_inb i)) numel1_S1
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c5120_i32 : BitVec 32 := 5120#32
  let c0_i32 : BitVec 32 := 0#32
  let c0_i32_0 : BitVec 32 := 0#32
  ![c5120_i32.toNat, c0_i32.toNat]

def cc0_transform_2 (i : grid0.Coords) : Fin 2 → Nat :=
  let arg0 : BitVec 32 := BitVec.ofNat 32 (i 0).val
  let c9248_i32 : BitVec 32 := 9248#32
  let c0_i32 : BitVec 32 := 0#32
  let c0_i32_0 : BitVec 32 := 0#32
  ![c9248_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== WprepRef.lean ====
abbrev S1x1024x13376 : Shape := ⟨3, ![1, 1024, 13376]⟩
abbrev S1024x13376 : Shape := ⟨2, ![1024, 13376]⟩
abbrev S1024x2048 : Shape := ⟨2, ![1024, 2048]⟩
abbrev S1024x3072 : Shape := ⟨2, ![1024, 3072]⟩
abbrev S1024x32 : Shape := ⟨2, ![1024, 32]⟩
abbrev S1024x4096 : Shape := ⟨2, ![1024, 4096]⟩
abbrev S1024x16 : Shape := ⟨2, ![1024, 16]⟩
abbrev S1024x13312 : Shape := ⟨2, ![1024, 13312]⟩
abbrev S_ : Shape := ⟨0, ![]⟩
abbrev S1024x64 : Shape := ⟨2, ![1024, 64]⟩
abbrev S1024x128 : Shape := ⟨2, ![1024, 128]⟩

abbrev nBuf : Space → Nat
  | .hbm => 16
  | .vmem => 0
  | .smem => 0
  | _ => 0

abbrev bufTy : (tb : Table) → Fin (tcTables nBuf tb) → BufTy
  | .hbm, ⟨0, _⟩ => ⟨S1x1024x13376, .f32⟩
  | .hbm, ⟨1, _⟩ => ⟨S1024x13376, .f32⟩
  | .hbm, ⟨2, _⟩ => ⟨S1024x2048, .f32⟩
  | .hbm, ⟨3, _⟩ => ⟨S1024x3072, .f32⟩
  | .hbm, ⟨4, _⟩ => ⟨S1024x32, .f32⟩
  | .hbm, ⟨5, _⟩ => ⟨S1024x4096, .f32⟩
  | .hbm, ⟨6, _⟩ => ⟨S1024x16, .f32⟩
  | .hbm, ⟨7, _⟩ => ⟨S1024x16, .f32⟩
  | .hbm, ⟨8, _⟩ => ⟨S1024x2048, .f32⟩
  | .hbm, ⟨9, _⟩ => ⟨S1024x2048, .f32⟩
  | .hbm, ⟨10, _⟩ => ⟨S1024x13312, .f32⟩
  | .hbm, ⟨11, _⟩ => ⟨S_, .f32⟩
  | .hbm, ⟨12, _⟩ => ⟨S1024x64, .f32⟩
  | .hbm, ⟨13, _⟩ => ⟨S1024x128, .f32⟩
  | .hbm, ⟨14, _⟩ => ⟨S1024x13312, .bf16⟩
  | .hbm, ⟨15, _⟩ => ⟨S1024x128, .bf16⟩
  | _, _ => ⟨S1x1024x13376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Dense.lean ====
abbrev S2x8192x1024 : Shape := ⟨3, ![2, 8192, 1024]⟩
abbrev S2x8192x2048 : Shape := ⟨3, ![2, 8192, 2048]⟩
abbrev S1024x13312 : Shape := ⟨2, ![1024, 13312]⟩
abbrev S1x1024 : Shape := ⟨2, ![1, 1024]⟩
abbrev S1x2x2048x1024 : Shape := ⟨4, ![1, 2, 2048, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024 : Shape := ⟨1, ![1024]⟩
abbrev S16384x1024 : Shape := ⟨2, ![16384, 1024]⟩
abbrev S16384x2048 : Shape := ⟨2, ![16384, 2048]⟩
abbrev S1x1x2048x1024 : Shape := ⟨4, ![1, 1, 2048, 1024]⟩
abbrev S2048x1024 : Shape := ⟨2, ![2048, 1024]⟩
abbrev S1024x1024 : Shape := ⟨2, ![1024, 1024]⟩
abbrev S1024x5632 : Shape := ⟨2, ![1024, 5632]⟩
abbrev S2816x1024 : Shape := ⟨2, ![2816, 1024]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 28
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x8192x2048, .bf16⟩
  | .hbm, ⟨2, _⟩ => ⟨S2x8192x2048, .bf16⟩
  | .hbm, ⟨3, _⟩ => ⟨S1024x13312, .bf16⟩
  | .hbm, ⟨4, _⟩ => ⟨S1x1024, .f32⟩
  | .hbm, ⟨5, _⟩ => ⟨S1x2x2048x1024, .f32⟩
  | .hbm, ⟨6, _⟩ => ⟨S1x1024x1024, .f32⟩
  | .hbm, ⟨7, _⟩ => ⟨S1x1024, .f32⟩
  | .hbm, ⟨8, _⟩ => ⟨S1x1024x5632, .f32⟩
  | .hbm, ⟨9, _⟩ => ⟨S1x2816x1024, .f32⟩
  | .hbm, ⟨10, _⟩ => ⟨S1024, .f32⟩
  | .hbm, ⟨11, _⟩ => ⟨S16384x1024, .f32⟩
  | .hbm, ⟨12, _⟩ => ⟨S16384x2048, .bf16⟩
  | .hbm, ⟨13, _⟩ => ⟨S16384x2048, .bf16⟩
  | .hbm, ⟨14, _⟩ => ⟨S1x1x2048x1024, .f32⟩
  | .hbm, ⟨15, _⟩ => ⟨S2048x1024, .f32⟩
  | .hbm, ⟨16, _⟩ => ⟨S2048x1024, .bf16⟩
  | .hbm, ⟨17, _⟩ => ⟨S1x1x2048x1024, .f32⟩
  | .hbm, ⟨18, _⟩ => ⟨S2048x1024, .f32⟩
  | .hbm, ⟨19, _⟩ => ⟨S2048x1024, .bf16⟩
  | .hbm, ⟨20, _⟩ => ⟨S1024x1024, .f32⟩
  | .hbm, ⟨21, _⟩ => ⟨S1024x1024, .bf16⟩
  | .hbm, ⟨22, _⟩ => ⟨S1024x5632, .f32⟩
  | .hbm, ⟨23, _⟩ => ⟨S1024x5632, .bf16⟩
  | .hbm, ⟨24, _⟩ => ⟨S2816x1024, .f32⟩
  | .hbm, ⟨25, _⟩ => ⟨S2816x1024, .bf16⟩
  | .hbm, ⟨26, _⟩ => ⟨S1x1024, .f32⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x1024, .f32⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== DenseRefIdeal.lean ====
abbrev S2x8192x1024 : Shape := ⟨3, ![2, 8192, 1024]⟩
abbrev S2x8192x2048 : Shape := ⟨3, ![2, 8192, 2048]⟩
abbrev S1024x13312 : Shape := ⟨2, ![1024, 13312]⟩
abbrev S1x1024 : Shape := ⟨2, ![1, 1024]⟩
abbrev S1x2x2048x1024 : Shape := ⟨4, ![1, 2, 2048, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2048 : Shape := ⟨2, ![1024, 2048]⟩
abbrev S2x8192x1x2048 : Shape := ⟨4, ![2, 8192, 1, 2048]⟩
abbrev S2x8192x2x2048 : Shape := ⟨4, ![2, 8192, 2, 2048]⟩
abbrev S2x2048x1024 : Shape := ⟨3, ![2, 2048, 1024]⟩
abbrev S2x1024x2x8192 : Shape := ⟨4, ![2, 1024, 2, 8192]⟩
abbrev S2x8192x2x1024 : Shape := ⟨4, ![2, 8192, 2, 1024]⟩
abbrev S1024x1024 : Shape := ⟨2, ![1024, 1024]⟩
abbrev S1024x5632 : Shape := ⟨2, ![1024, 5632]⟩
abbrev S2x8192x5632 : Shape := ⟨3, ![2, 8192, 5632]⟩
abbrev S2x8192x2816 : Shape := ⟨3, ![2, 8192, 2816]⟩
abbrev S2816x1024 : Shape := ⟨2, ![2816, 1024]⟩
abbrev S16384x1024 : Shape := ⟨2, ![16384, 1024]⟩

abbrev nBuf : Space → Nat
  | .hbm => 104
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x2048, .bf16⟩
  | .hbm, ⟨2, _⟩ => ⟨S2x8192x2048, .bf16⟩
  | .hbm, ⟨3, _⟩ => ⟨S1024x13312, .bf16⟩
  | .hbm, ⟨4, _⟩ => ⟨S1x1024, .f32⟩
  | .hbm, ⟨5, _⟩ => ⟨S1x2x2048x1024, .f32⟩
  | .hbm, ⟨6, _⟩ => ⟨S1x1024x1024, .f32⟩
  | .hbm, ⟨7, _⟩ => ⟨S1x1024, .f32⟩
  | .hbm, ⟨8, _⟩ => ⟨S1x1024x5632, .f32⟩
  | .hbm, ⟨9, _⟩ => ⟨S1x2816x1024, .f32⟩
  | .hbm, ⟨10, _⟩ => ⟨S1024, .f32⟩
  | .hbm, ⟨11, _⟩ => ⟨S1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S1024x2048, .bf16⟩
  | .hbm, ⟨29, _⟩ => ⟨S1024x2048, .f32⟩
  | .hbm, ⟨30, _⟩ => ⟨S2x8192x2048, .f32⟩
  | .hbm, ⟨31, _⟩ => ⟨S2x8192x1x2048, .bf16⟩
  | .hbm, ⟨32, _⟩ => ⟨S2x8192x1x2048, .bf16⟩
  | .hbm, ⟨33, _⟩ => ⟨S2x8192x2x2048, .bf16⟩
  | .hbm, ⟨34, _⟩ => ⟨S2x8192x2x2048, .f32⟩
  | .hbm, ⟨35, _⟩ => ⟨S2x2048x1024, .f32⟩
  | .hbm, ⟨36, _⟩ => ⟨S2x1024x2x8192, .f32⟩
  | .hbm, ⟨37, _⟩ => ⟨S2x8192x2x1024, .f32⟩
  | .hbm, ⟨38, _⟩ => ⟨S2x8192x2x1024, .f32⟩
  | .hbm, ⟨39, _⟩ => ⟨S2x8192x2x1024, .f32⟩
  | .hbm, ⟨40, _⟩ => ⟨S2x8192x2x1024, .f32⟩
  | .hbm, ⟨41, _⟩ => ⟨S_, .f32⟩
  | .hbm, ⟨42, _⟩ => ⟨S2x8192x2x1024, .f32⟩
  | .hbm, ⟨43, _⟩ => ⟨S2x8192x2x1024, .f32⟩
  | .hbm, ⟨44, _⟩ => ⟨S_, .f32⟩
  | .hbm, ⟨45, _⟩ => ⟨S2x8192x2x1024, .f32⟩
  | .hbm, ⟨46, _⟩ => ⟨S2x8192x2x1024, .f32⟩
  | .hbm, ⟨47, _⟩ => ⟨S2x8192x2x1024, .f32⟩
  | .hbm, ⟨48, _⟩ => ⟨S_, .f32⟩
  | .hbm, ⟨49, _⟩ => ⟨S2x8192x1024, .f32⟩
  | .hbm, ⟨50, _⟩ => ⟨S1024x1024, .f32⟩
  | .hbm, ⟨51, _⟩ => ⟨S2x8192x1024, .f32⟩
  | .hbm, ⟨52, _⟩ => ⟨S2x8192x1024, .f32⟩
  | .hbm, ⟨53, _⟩ => ⟨S1024, .f32⟩
  | .hbm, ⟨54, _⟩ => ⟨S2x8192x1024, .f32⟩
  | .hbm, ⟨55, _⟩ => ⟨S_, .f32⟩
  | .hbm, ⟨56, _⟩ => ⟨S2x8192, .f32⟩
  | .hbm, ⟨57, _⟩ => ⟨S2x8192x1, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S_, .f32⟩
  | .hbm, ⟨62, _⟩ => ⟨S2x8192x1, .f32⟩
  | .hbm, ⟨63, _⟩ => ⟨S2x8192x1, .f32⟩
  | .hbm, ⟨64, _⟩ => ⟨S2x8192x1, .f32⟩
  | .hbm, ⟨65, _⟩ => ⟨S2x8192x1024, .f32⟩
  | .hbm, ⟨66, _⟩ => ⟨S2x8192x1024, .f32⟩
  | .hbm, ⟨67, _⟩ => ⟨S1x1x1024, .f32⟩
  | .hbm, ⟨68, _⟩ => ⟨S2x8192x1024, .f32⟩
  | .hbm, ⟨69, _⟩ => ⟨S2x8192x1024, .f32⟩
  | .hbm, ⟨70, _⟩ => ⟨S1024x5632, .f32⟩
  | .hbm, ⟨71, _⟩ => ⟨S2x8192x5632, .f32⟩
  | .hbm, ⟨72, _⟩ => ⟨S2x8192x2816, .f32⟩
  | .hbm, ⟨73, _⟩ => ⟨S2x8192x2816, .f32⟩
  | .hbm, ⟨74, _⟩ => ⟨S2x8192x2816, .f32⟩
  | .hbm, ⟨75, _⟩ => ⟨S2x8192x2816, .f32⟩
  | .hbm, ⟨76, _⟩ => ⟨S_, .f32⟩
  | .hbm, ⟨77, _⟩ => ⟨S2x8192x2816, .f32⟩
  | .hbm, ⟨78, _⟩ => ⟨S2x8192x2816, .f32⟩
  | .hbm, ⟨79, _⟩ => ⟨S_, .f32⟩
  | .hbm, ⟨80, _⟩ => ⟨S2x8192x2816, .f32⟩
  | .hbm, ⟨81, _⟩ => ⟨S2x8192x2816, .f32⟩
  | .hbm, ⟨82, _⟩ => ⟨S2x8192x2816, .f32⟩
  | .hbm, ⟨83, _⟩ => ⟨S2x8192x2816, .f32⟩
  | .hbm, ⟨84, _⟩ => ⟨S2816x1024, .f32⟩
  | .hbm, ⟨85, _⟩ => ⟨S2x8192x1024, .f32⟩
  | .hbm, ⟨86, _⟩ => ⟨S2x8192x1024, .f32⟩
  | .hbm, ⟨87, _⟩ => ⟨S2x8192x1024, .f32⟩
  | .hbm, ⟨88, _⟩ => ⟨S_, .f32⟩
  | .hbm, ⟨89, _⟩ => ⟨S2x8192, .f32⟩
  | .hbm, ⟨90, _⟩ => ⟨S2x8192x1, .f32⟩
  | .hbm, ⟨91, _⟩ => ⟨S_, .f32⟩
  | .hbm, ⟨92, _⟩ => ⟨S2x8192x1, .f32⟩
  | .hbm, ⟨93, _⟩ => ⟨S2x8192x1, .f32⟩
  | .hbm, ⟨94, _⟩ => ⟨S_, .f32⟩
  | .hbm, ⟨95, _⟩ => ⟨S2x8192x1, .f32⟩
  | .hbm, ⟨96, _⟩ => ⟨S2x8192x1, .f32⟩
  | .hbm, ⟨97, _⟩ => ⟨S2x8192x1, .f32⟩
  | .hbm, ⟨98, _⟩ => ⟨S2x8192x1024, .f32⟩
  | .hbm, ⟨99, _⟩ => ⟨S2x8192x1024, .f32⟩
  | .hbm, ⟨100, _⟩ => ⟨S1x1x1024, .f32⟩
  | .hbm, ⟨101, _⟩ => ⟨S2x8192x1024, .f32⟩
  | .hbm, ⟨102, _⟩ => ⟨S2x8192x1024, .f32⟩
  | .hbm, ⟨103, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_8 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]
-- ==== Inproj.lean ====
abbrev S2x8192x1024 : Shape := ⟨3, ![2, 8192, 1024]⟩
abbrev S16x1024 : Shape := ⟨2, ![16, 1024]⟩
abbrev S1x1024 : Shape := ⟨2, ![1, 1024]⟩
abbrev S1024x13312 : Shape := ⟨2, ![1024, 13312]⟩
abbrev S1024x128 : Shape := ⟨2, ![1024, 128]⟩
abbrev S_ : Shape := ⟨0, ![]⟩
abbrev S48x1024 : Shape := ⟨2, ![48, 1024]⟩
abbrev S64x1024 : Shape := ⟨2, ![64, 1024]⟩
abbrev S1x64x1024 : Shape := ⟨3, ![1, 64, 1024]⟩
abbrev S2x64x1024 : Shape := ⟨3, ![2, 64, 1024]⟩
abbrev S2x8256x1024 : Shape := ⟨3, ![2, 8256, 1024]⟩
abbrev S16512x1024 : Shape := ⟨2, ![16512, 1024]⟩
abbrev S16512x11264 : Shape := ⟨2, ![16512, 11264]⟩
abbrev S16512x128 : Shape := ⟨2, ![16512, 128]⟩
abbrev S2064x1024 : Shape := ⟨2, ![2064, 1024]⟩
abbrev S1024x1024 : Shape := ⟨2, ![1024, 1024]⟩
abbrev S2064x128 : Shape := ⟨2, ![2064, 128]⟩
abbrev S2064 : Shape := ⟨1, ![2064]⟩
abbrev S2064x1 : Shape := ⟨2, ![2064, 1]⟩

abbrev nBuf : Space → Nat
  | .hbm => 14
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S16x1024, .f32⟩
  | .hbm, ⟨2, _⟩ => ⟨S1x1024, .f32⟩
  | .hbm, ⟨3, _⟩ => ⟨S1024x13312, .bf16⟩
  | .hbm, ⟨4, _⟩ => ⟨S1024x128, .bf16⟩
  | .hbm, ⟨5, _⟩ => ⟨S_, .f32⟩
  | .hbm, ⟨6, _⟩ => ⟨S48x1024, .f32⟩
  | .hbm, ⟨7, _⟩ => ⟨S64x1024, .f32⟩
  | .hbm, ⟨8, _⟩ => ⟨S1x64x1024, .f32⟩
  | .hbm, ⟨9, _⟩ => ⟨S2x64x1024, .f32⟩
  | .hbm, ⟨10, _⟩ => ⟨S2x8256x1024, .f32⟩
  | .hbm, ⟨11, _⟩ => ⟨S16512x1024, .f32⟩
  | .hbm, ⟨12, _⟩ => ⟨S16512x11264, .bf16⟩
  | .hbm, ⟨13, _⟩ => ⟨S16512x128, .f32⟩
  | .local _ .vmem, ⟨0, _⟩ => ⟨S2064x1024, .f32⟩
  | .local _ .vmem, ⟨1, _⟩ => ⟨S2064x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S2064x1024, .bf16⟩
  | .local _ .vmem, ⟨7, _⟩ => ⟨S2064x1024, .bf16⟩
  | .local _ .vmem, ⟨8, _⟩ => ⟨S2064x128, .f32⟩
  | .local _ .vmem, ⟨9, _⟩ => ⟨S2064x128, .f32⟩
  | .local _ .vmem, ⟨10, _⟩ => ⟨S2064x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2064x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2064x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2064x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InprojRefIdeal.lean ====
abbrev S2x8192x1024 : Shape := ⟨3, ![2, 8192, 1024]⟩
abbrev S16x1024 : Shape := ⟨2, ![16, 1024]⟩
abbrev S1x1024 : Shape := ⟨2, ![1, 1024]⟩
abbrev S1024x13312 : Shape := ⟨2, ![1024, 13312]⟩
abbrev S1024x128 : Shape := ⟨2, ![1024, 128]⟩
abbrev S1x16x1024 : Shape := ⟨3, ![1, 16, 1024]⟩
abbrev S2x16x1024 : Shape := ⟨3, ![2, 16, 1024]⟩
abbrev S2x8208x1024 : Shape := ⟨3, ![2, 8208, 1024]⟩
abbrev S1024 : Shape := ⟨1, ![1024]⟩
abbrev S_ : Shape := ⟨0, ![]⟩
abbrev S2x8208 : Shape := ⟨2, ![2, 8208]⟩
abbrev S2x8208x1 : Shape := ⟨3, ![2, 8208, 1]⟩
abbrev S1x1x1024 : Shape := ⟨3, ![1, 1, 1024]⟩
abbrev S2x8256x1024 : Shape := ⟨3, ![2, 8256, 1024]⟩
abbrev S1024x11264 : Shape := ⟨2, ![1024, 11264]⟩
abbrev S2x8256x11264 : Shape := ⟨3, ![2, 8256, 11264]⟩
abbrev S2x8256x128 : Shape := ⟨3, ![2, 8256, 128]⟩
abbrev S16512x11264 : Shape := ⟨2, ![16512, 11264]⟩
abbrev S16512x128 : Shape := ⟨2, ![16512, 128]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16x1024, .f32⟩
  | .hbm, ⟨2, _⟩ => ⟨S1x1024, .f32⟩
  | .hbm, ⟨3, _⟩ => ⟨S1024x13312, .bf16⟩
  | .hbm, ⟨4, _⟩ => ⟨S1024x128, .bf16⟩
  | .hbm, ⟨5, _⟩ => ⟨S1x16x1024, .f32⟩
  | .hbm, ⟨6, _⟩ => ⟨S2x16x1024, .f32⟩
  | .hbm, ⟨7, _⟩ => ⟨S2x8208x1024, .f32⟩
  | .hbm, ⟨8, _⟩ => ⟨S1024, .f32⟩
  | .hbm, ⟨9, _⟩ => ⟨S2x8208x1024, .f32⟩
  | .hbm, ⟨10, _⟩ => ⟨S_, .f32⟩
  | .hbm, ⟨11, _⟩ => ⟨S2x8208, .f32⟩
  | .hbm, ⟨12, _⟩ => ⟨S2x8208x1, .f32⟩
  | .hbm, ⟨13, _⟩ => ⟨S_, .f32⟩
  | .hbm, ⟨14, _⟩ => ⟨S2x8208x1, .f32⟩
  | .hbm, ⟨15, _⟩ => ⟨S2x8208x1, .f32⟩
  | .hbm, ⟨16, _⟩ => ⟨S_, .f32⟩
  | .hbm, ⟨17, _⟩ => ⟨S2x8208x1, .f32⟩
  | .hbm, ⟨18, _⟩ => ⟨S2x8208x1, .f32⟩
  | .hbm, ⟨19, _⟩ => ⟨S2x8208x1, .f32⟩
  | .hbm, ⟨20, _⟩ => ⟨S2x8208x1024, .f32⟩
  | .hbm, ⟨21, _⟩ => ⟨S2x8208x1024, .f32⟩
  | .hbm, ⟨22, _⟩ => ⟨S1x1x1024, .f32⟩
  | .hbm, ⟨23, _⟩ => ⟨S2x8208x1024, .f32⟩
  | .hbm, ⟨24, _⟩ => ⟨S2x8208x1024, .f32⟩
  | .hbm, ⟨25, _⟩ => ⟨S_, .i32⟩
  | .hbm, ⟨26, _⟩ => ⟨S_, .f32⟩
  | .hbm, ⟨27, _⟩ => ⟨S2x8256x1024, .f32⟩
  | .hbm, ⟨28, _⟩ => ⟨S1024x11264, .bf16⟩
  | .hbm, ⟨29, _⟩ => ⟨S1024x11264, .f32⟩
  | .hbm, ⟨30, _⟩ => ⟨S2x8256x11264, .f32⟩
  | .hbm, ⟨31, _⟩ => ⟨S1024x128, .f32⟩
  | .hbm, ⟨32, _⟩ => ⟨S2x8256x128, .f32⟩
  | .hbm, ⟨33, _⟩ => ⟨S2x8256x11264, .bf16⟩
  | .hbm, ⟨34, _⟩ => ⟨S16512x11264, .bf16⟩
  | .hbm, ⟨35, _⟩ => ⟨S16512x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Ssd.lean ====
abbrev S2x8256x11264 : Shape := ⟨3, ![2, 8256, 11264]⟩
abbrev S2x8256x128 : Shape := ⟨3, ![2, 8256, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S64x192 : Shape := ⟨2, ![64, 192]⟩
abbrev S192x80 : Shape := ⟨2, ![192, 80]⟩
abbrev S128x2048 : Shape := ⟨2, ![128, 2048]⟩
abbrev S_ : Shape := ⟨0, ![]⟩
abbrev S1x128x1x2048 : Shape := ⟨4, ![1, 128, 1, 2048]⟩
abbrev S3x128x1x2048 : Shape := ⟨4, ![3, 128, 1, 2048]⟩
abbrev S384x2048 : Shape := ⟨2, ![384, 2048]⟩
abbrev S4x3072 : Shape := ⟨2, ![4, 3072]⟩
abbrev S32 : Shape := ⟨1, ![32]⟩
abbrev S1x128 : Shape := ⟨2, ![1, 128]⟩
abbrev S32x64 : Shape := ⟨2, ![32, 64]⟩
abbrev S2048 : Shape := ⟨1, ![2048]⟩
abbrev S2x8192x2048 : Shape := ⟨3, ![2, 8192, 2048]⟩
abbrev S2x64x2048 : Shape := ⟨3, ![2, 64, 2048]⟩
abbrev S2x64x1024 : Shape := ⟨3, ![2, 64, 1024]⟩
abbrev S2x64x128 : Shape := ⟨3, ![2, 64, 128]⟩
abbrev S2x16x3072 : Shape := ⟨3, ![2, 16, 3072]⟩
abbrev S2x64x3072 : Shape := ⟨3, ![2, 64, 3072]⟩
abbrev S2x128x2048 : Shape := ⟨3, ![2, 128, 2048]⟩
abbrev S16x256x256 : Shape := ⟨3, ![16, 256, 256]⟩
abbrev S64x1 : Shape := ⟨2, ![64, 1]⟩
abbrev S64x2048 : Shape := ⟨2, ![64, 2048]⟩
abbrev S1x16x3072 : Shape := ⟨3, ![1, 16, 3072]⟩
abbrev S16x3072 : Shape := ⟨2, ![16, 3072]⟩
abbrev S16x256 : Shape := ⟨2, ![16, 256]⟩
abbrev S1x64x2048 : Shape := ⟨3, ![1, 64, 2048]⟩
abbrev S64x256 : Shape := ⟨2, ![64, 256]⟩
abbrev S80x256 : Shape := ⟨2, ![80, 256]⟩
abbrev S192x256 : Shape := ⟨2, ![192, 256]⟩
abbrev S1x256 : Shape := ⟨2, ![1, 256]⟩
abbrev S1x64x3072 : Shape := ⟨3, ![1, 64, 3072]⟩
abbrev S64x3072 : Shape := ⟨2, ![64, 3072]⟩
abbrev S1x64x128 : Shape := ⟨3, ![1, 64, 128]⟩
abbrev S64x128 : Shape := ⟨2, ![64, 128]⟩
abbrev S1x64x1024 : Shape := ⟨3, ![1, 64, 1024]⟩
abbrev S64x1024 : Shape := ⟨2, ![64, 1024]⟩
abbrev S192x128 : Shape := ⟨2, ![192, 128]⟩
abbrev S256x128 : Shape := ⟨2, ![256, 128]⟩
abbrev S256x384 : Shape := ⟨2, ![256, 384]⟩
abbrev S256x2048 : Shape := ⟨2, ![256, 2048]⟩
abbrev S16x2048 : Shape := ⟨2, ![16, 2048]⟩
abbrev S1x16x2048 : Shape := ⟨3, ![1, 16, 2048]⟩
abbrev S16x1024 : Shape := ⟨2, ![16, 1024]⟩
abbrev S1x16x1024 : Shape := ⟨3, ![1, 16, 1024]⟩
abbrev S1x64x512 : Shape := ⟨3, ![1, 64, 512]⟩
abbrev S64x512 : Shape := ⟨2, ![64, 512]⟩
abbrev S512x128 : Shape := ⟨2, ![512, 128]⟩
abbrev S64x64 : Shape := ⟨2, ![64, 64]⟩
abbrev S1x256x256 : Shape := ⟨3, ![1, 256, 256]⟩
abbrev S256x256 : Shape := ⟨2, ![256, 256]⟩
abbrev S1x64x64 : Shape := ⟨3, ![1, 64, 64]⟩
abbrev S1x128x512 : Shape := ⟨3, ![1, 128, 512]⟩
abbrev S128x512 : Shape := ⟨2, ![128, 512]⟩
abbrev S1x512 : Shape := ⟨2, ![1, 512]⟩
abbrev S128x64 : Shape := ⟨2, ![128, 64]⟩
abbrev S64 : Shape := ⟨1, ![64]⟩

abbrev nBuf : Space → Nat
  | .hbm => 56
  | .vmem => 23
  | .smem => 0
  | _ => 0

abbrev bufTy : (tb : Table) → Fin (tcTables nBuf tb) → BufTy
  | .hbm, ⟨0, _⟩ => ⟨S2x8256x11264, .bf16⟩
  | .hbm, ⟨1, _⟩ => ⟨S2x8256x128, .f32⟩
  | .hbm, ⟨2, _⟩ => ⟨S1x4x3072, .f32⟩
  | .hbm, ⟨3, _⟩ => ⟨S1x3072, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x2048, .f32⟩
  | .hbm, ⟨8, _⟩ => ⟨S64x192, .bf16⟩
  | .hbm, ⟨9, _⟩ => ⟨S192x80, .bf16⟩
  | .hbm, ⟨10, _⟩ => ⟨S128x2048, .i32⟩
  | .hbm, ⟨11, _⟩ => ⟨S128x2048, .i32⟩
  | .hbm, ⟨12, _⟩ => ⟨S_, .i32⟩
  | .hbm, ⟨13, _⟩ => ⟨S_, .i32⟩
  | .hbm, ⟨14, _⟩ => ⟨S128x2048, .i32⟩
  | .hbm, ⟨15, _⟩ => ⟨S128x2048, .i32⟩
  | .hbm, ⟨16, _⟩ => ⟨S128x2048, .i32⟩
  | .hbm, ⟨17, _⟩ => ⟨S_, .i32⟩
  | .hbm, ⟨18, _⟩ => ⟨S128x2048, .i32⟩
  | .hbm, ⟨19, _⟩ => ⟨S128x2048, .i1⟩
  | .hbm, ⟨20, _⟩ => ⟨S128x2048, .i32⟩
  | .hbm, ⟨21, _⟩ => ⟨S128x2048, .i32⟩
  | .hbm, ⟨22, _⟩ => ⟨S_, .i32⟩
  | .hbm, ⟨23, _⟩ => ⟨S128x2048, .i32⟩
  | .hbm, ⟨24, _⟩ => ⟨S128x2048, .i1⟩
  | .hbm, ⟨25, _⟩ => ⟨S128x2048, .i1⟩
  | .hbm, ⟨26, _⟩ => ⟨S_, .i32⟩
  | .hbm, ⟨27, _⟩ => ⟨S128x2048, .i32⟩
  | .hbm, ⟨28, _⟩ => ⟨S128x2048, .i32⟩
  | .hbm, ⟨29, _⟩ => ⟨S128x2048, .i32⟩
  | .hbm, ⟨30, _⟩ => ⟨S128x2048, .i1⟩
  | .hbm, ⟨31, _⟩ => ⟨S128x2048, .f32⟩
  | .hbm, ⟨32, _⟩ => ⟨S128x2048, .bf16⟩
  | .hbm, ⟨33, _⟩ => ⟨S1x128x1x2048, .bf16⟩
  | .hbm, ⟨34, _⟩ => ⟨S3x128x1x2048, .bf16⟩
  | .hbm, ⟨35, _⟩ => ⟨S384x2048, .bf16⟩
  | .hbm, ⟨36, _⟩ => ⟨S4x3072, .f32⟩
  | .hbm, ⟨37, _⟩ => ⟨S32, .f32⟩
  | .hbm, ⟨38, _⟩ => ⟨S_, .f32⟩
  | .hbm, ⟨39, _⟩ => ⟨S1x128, .f32⟩
  | .hbm, ⟨40, _⟩ => ⟨S1x32, .f32⟩
  | .hbm, ⟨41, _⟩ => ⟨S_, .i32⟩
  | .hbm, ⟨42, _⟩ => ⟨S_, .i32⟩
  | .hbm, ⟨43, _⟩ => ⟨S1x128, .f32⟩
  | .hbm, ⟨44, _⟩ => ⟨S32, .f32⟩
  | .hbm, ⟨45, _⟩ => ⟨S_, .f32⟩
  | .hbm, ⟨46, _⟩ => ⟨S1x128, .f32⟩
  | .hbm, ⟨47, _⟩ => ⟨S1x32, .f32⟩
  | .hbm, ⟨48, _⟩ => ⟨S_, .i32⟩
  | .hbm, ⟨49, _⟩ => ⟨S_, .i32⟩
  | .hbm, ⟨50, _⟩ => ⟨S1x128, .f32⟩
  | .hbm, ⟨51, _⟩ => ⟨S32, .f32⟩
  | .hbm, ⟨52, _⟩ => ⟨S32x64, .f32⟩
  | .hbm, ⟨53, _⟩ => ⟨S2048, .f32⟩
  | .hbm, ⟨54, _⟩ => ⟨S1x2048, .f32⟩
  | .hbm, ⟨55, _⟩ => ⟨S2x8192x2048, .bf16⟩
  | .local _ .vmem, ⟨0, _⟩ => ⟨S2x64x2048, .bf16⟩
  | .local _ .vmem, ⟨1, _⟩ => ⟨S2x64x2048, .bf16⟩
  | .local _ .vmem, ⟨2, _⟩ => ⟨S2x64x2048, .bf16⟩
  | .local _ .vmem, ⟨3, _⟩ => ⟨S2x64x2048, .bf16⟩
  | .local _ .vmem, ⟨4, _⟩ => ⟨S2x64x1024, .bf16⟩
  | .local _ .vmem, ⟨5, _⟩ => ⟨S2x64x1024, .bf16⟩
  | .local _ .vmem, ⟨6, _⟩ => ⟨S2x64x128, .f32⟩
  | .local _ .vmem, ⟨7, _⟩ => ⟨S2x64x128, .f32⟩
  | .local _ .vmem, ⟨8, _⟩ => ⟨S4x3072, .f32⟩
  | .local _ .vmem, ⟨9, _⟩ => ⟨S1x3072, .f32⟩
  | .local _ .vmem, ⟨10, _⟩ => ⟨S1x128, .f32⟩
  | .local _ .vmem, ⟨11, _⟩ => ⟨S1x128, .f32⟩
  | .local _ .vmem, ⟨12, _⟩ => ⟨S1x2048, .f32⟩
  | .local _ .vmem, ⟨13, _⟩ => ⟨S1x2048, .f32⟩
  | .local _ .vmem, ⟨14, _⟩ => ⟨S64x192, .bf16⟩
  | .local _ .vmem, ⟨15, _⟩ => ⟨S384x2048, .bf16⟩
  | .local _ .vmem, ⟨16, _⟩ => ⟨S192x80, .bf16⟩
  | .local _ .vmem, ⟨17, _⟩ => ⟨S2x64x2048, .bf16⟩
  | .local _ .vmem, ⟨18, _⟩ => ⟨S2x64x2048, .bf16⟩
  | .local _ .vmem, ⟨19, _⟩ => ⟨S2x16x3072, .bf16⟩
  | .local _ .vmem, ⟨20, _⟩ => ⟨S2x64x3072, .f32⟩
  | .local _ .vmem, ⟨21, _⟩ => ⟨S2x128x2048, .f32⟩
  | .local _ .vmem, ⟨22, _⟩ => ⟨S16x256x256, .bf16⟩
  | _, _ => ⟨S2x8256x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_c_2 : Ref sig .tc := ⟨.hbm, 41, rfl⟩
abbrev main_c_3 : Ref sig .tc := ⟨.hbm, 42, rfl⟩
abbrev main_v13 : Ref sig .tc := ⟨.hbm, 43, rfl⟩
abbrev main_v14 : Ref sig .tc := ⟨.hbm, 44, rfl⟩
abbrev main_cst_4 : Ref sig .tc := ⟨.hbm, 45, rfl⟩
abbrev main_v15 : Ref sig .tc := ⟨.hbm, 46, rfl⟩
abbrev main_v16 : Ref sig .tc := ⟨.hbm, 47, rfl⟩
abbrev main_c_5 : Ref sig .tc := ⟨.hbm, 48, rfl⟩
abbrev main_c_6 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![129], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![c0_i32.toNat, arg0.toNat, c4_i32.toNat]

def cc0_transform_2 (i : grid0.Coords) : Fin 3 → Nat :=
  let arg0 : BitVec 32 := BitVec.ofNat 32 (i 0).val
  let c0_i32 : BitVec 32 := 0#32
  let c10_i32 : BitVec 32 := 10#32
  let c0_i32_0 : BitVec 32 := 0#32
  ![c0_i32.toNat, arg0.toNat, c10_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 2 → Memref sig .tc .vmem S2x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S192x80 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2x64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== SsdRefIdeal.lean ====
abbrev S2x8256x11264 : Shape := ⟨3, ![2, 8256, 11264]⟩
abbrev S2x8256x128 : Shape := ⟨3, ![2, 8256, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S2x8256x2048 : Shape := ⟨3, ![2, 8256, 2048]⟩
abbrev S2x8256x3072 : Shape := ⟨3, ![2, 8256, 3072]⟩
abbrev S2x8256x32 : Shape := ⟨3, ![2, 8256, 32]⟩
abbrev S8256 : Shape := ⟨1, ![8256]⟩
abbrev S_ : Shape := ⟨0, ![]⟩
abbrev S1x8256x1 : Shape := ⟨3, ![1, 8256, 1]⟩
abbrev S4x3072 : Shape := ⟨2, ![4, 3072]⟩
abbrev S2x8259x3072 : Shape := ⟨3, ![2, 8259, 3072]⟩
abbrev S3072 : Shape := ⟨1, ![3072]⟩
abbrev S1x1x3072 : Shape := ⟨3, ![1, 1, 3072]⟩
abbrev S2x8256x512 : Shape := ⟨3, ![2, 8256, 512]⟩
abbrev S32 : Shape := ⟨1, ![32]⟩
abbrev S1x1x32 : Shape := ⟨3, ![1, 1, 32]⟩
abbrev S2x8256x32x64 : Shape := ⟨4, ![2, 8256, 32, 64]⟩
abbrev S2x8256x4x128 : Shape := ⟨4, ![2, 8256, 4, 128]⟩
abbrev S2x8256x32x1 : Shape := ⟨4, ![2, 8256, 32, 1]⟩
abbrev S2x129x64x4x8x64 : Shape := ⟨6, ![2, 129, 64, 4, 8, 64]⟩
abbrev S2x129x64x4x8 : Shape := ⟨5, ![2, 129, 64, 4, 8]⟩
abbrev S2x129x4x8x64 : Shape := ⟨5, ![2, 129, 4, 8, 64]⟩
abbrev S2x129x64x4x128 : Shape := ⟨5, ![2, 129, 64, 4, 128]⟩
abbrev S2x129x4x64x64 : Shape := ⟨5, ![2, 129, 4, 64, 64]⟩
abbrev S2x129x4x1x64x64 : Shape := ⟨6, ![2, 129, 4, 1, 64, 64]⟩
abbrev S64x64 : Shape := ⟨2, ![64, 64]⟩
abbrev S2x129x4x8x64x1 : Shape := ⟨6, ![2, 129, 4, 8, 64, 1]⟩
abbrev S2x129x4x8x1x64 : Shape := ⟨6, ![2, 129, 4, 8, 1, 64]⟩
abbrev S2x129x4x8x64x64 : Shape := ⟨6, ![2, 129, 4, 8, 64, 64]⟩
abbrev S2x129x4x8x1 : Shape := ⟨5, ![2, 129, 4, 8, 1]⟩
abbrev S2x129x64x4x8x1 : Shape := ⟨6, ![2, 129, 64, 4, 8, 1]⟩
abbrev S2x129x4x8x64x128 : Shape := ⟨6, ![2, 129, 4, 8, 64, 128]⟩
abbrev S2x129x4x8 : Shape := ⟨4, ![2, 129, 4, 8]⟩
abbrev S2x4x8x64x128 : Shape := ⟨5, ![2, 4, 8, 64, 128]⟩
abbrev S129x2x4x8x64x128 : Shape := ⟨6, ![129, 2, 4, 8, 64, 128]⟩
abbrev S129x2x4x8 : Shape := ⟨4, ![129, 2, 4, 8]⟩
abbrev S1x2x4x8x64x128 : Shape := ⟨6, ![1, 2, 4, 8, 64, 128]⟩
abbrev S1x2x4x8 : Shape := ⟨4, ![1, 2, 4, 8]⟩
abbrev S2x4x8 : Shape := ⟨3, ![2, 4, 8]⟩
abbrev S2x4x8x1x1 : Shape := ⟨5, ![2, 4, 8, 1, 1]⟩
abbrev S32x1 : Shape := ⟨2, ![32, 1]⟩
abbrev S1x1x32x1 : Shape := ⟨4, ![1, 1, 32, 1]⟩
abbrev S2x8256x4x512 : Shape := ⟨4, ![2, 8256, 4, 512]⟩
abbrev S2x8256x4 : Shape := ⟨3, ![2, 8256, 4]⟩
abbrev S2x8256x4x1 : Shape := ⟨4, ![2, 8256, 4, 1]⟩
abbrev S2048 : Shape := ⟨1, ![2048]⟩
abbrev S1x1x2048 : Shape := ⟨3, ![1, 1, 2048]⟩
abbrev S2x8192x2048 : Shape := ⟨3, ![2, 8192, 2048]⟩

abbrev nBuf : Space → Nat
  | .hbm => 236
  | .vmem => 0
  | .smem => 0
  | _ => 0

abbrev hbmTy0_0 (i : Nat) : BufTy := match i % 128 with
  | 0 => ⟨S2x8256x11264, .bf16⟩
  | 1 => ⟨S2x8256x128, .f32⟩
  | 2 => ⟨S1x4x3072, .f32⟩
  | 3 => ⟨S1x3072, .f32⟩
  | 4 => ⟨S1x32, .f32⟩
  | 5 => ⟨S1x32, .f32⟩
  | 6 => ⟨S1x32, .f32⟩
  | 7 => ⟨S1x2048, .f32⟩
  | 8 => ⟨S2x8256x2048, .bf16⟩
  | 9 => ⟨S2x8256x2048, .f32⟩
  | 10 => ⟨S2x8256x3072, .bf16⟩
  | 11 => ⟨S2x8256x3072, .f32⟩
  | 12 => ⟨S2x8256x32, .f32⟩
  | 13 => ⟨S8256, .i32⟩
  | 14 => ⟨S_, .i32⟩
  | 15 => ⟨S8256, .i32⟩
  | 16 => ⟨S8256, .i1⟩
  | 17 => ⟨S8256, .f32⟩
  | 18 => ⟨S1x8256x1, .f32⟩
  | 19 => ⟨S4x3072, .f32⟩
  | 20 => ⟨S_, .i32⟩
  | 21 => ⟨S_, .f32⟩
  | 22 => ⟨S2x8259x3072, .f32⟩
  | 23 => ⟨S1x3072, .f32⟩
  | 24 => ⟨S3072, .f32⟩
  | 25 => ⟨S2x8256x3072, .f32⟩
  | 26 => ⟨S1x1x3072, .f32⟩
  | 27 => ⟨S2x8256x3072, .f32⟩
  | 28 => ⟨S2x8256x3072, .f32⟩
  | 29 => ⟨S_, .f32⟩
  | 30 => ⟨S2x8256x3072, .f32⟩
  | 31 => ⟨S2x8256x3072, .f32⟩
  | 32 => ⟨S1x3072, .f32⟩
  | 33 => ⟨S3072, .f32⟩
  | 34 => ⟨S2x8256x3072, .f32⟩
  | 35 => ⟨S1x1x3072, .f32⟩
  | 36 => ⟨S2x8256x3072, .f32⟩
  | 37 => ⟨S2x8256x3072, .f32⟩
  | 38 => ⟨S2x8256x3072, .f32⟩
  | 39 => ⟨S1x3072, .f32⟩
  | 40 => ⟨S3072, .f32⟩
  | 41 => ⟨S2x8256x3072, .f32⟩
  | 42 => ⟨S1x1x3072, .f32⟩
  | 43 => ⟨S2x8256x3072, .f32⟩
  | 44 => ⟨S2x8256x3072, .f32⟩
  | 45 => ⟨S2x8256x3072, .f32⟩
  | 46 => ⟨S1x3072, .f32⟩
  | 47 => ⟨S3072, .f32⟩
  | 48 => ⟨S2x8256x3072, .f32⟩
  | 49 => ⟨S1x1x3072, .f32⟩
  | 50 => ⟨S2x8256x3072, .f32⟩
  | 51 => ⟨S2x8256x3072, .f32⟩
  | 52 => ⟨S2x8256x3072, .f32⟩
  | 53 => ⟨S3072, .f32⟩
  | 54 => ⟨S1x1x3072, .f32⟩
  | 55 => ⟨S2x8256x3072, .f32⟩
  | 56 => ⟨S2x8256x3072, .f32⟩
  | 57 => ⟨S2x8256x3072, .f32⟩
  | 58 => ⟨S2x8256x3072, .f32⟩
  | 59 => ⟨S_, .f32⟩
  | 60 => ⟨S2x8256x3072, .f32⟩
  | 61 => ⟨S2x8256x3072, .f32⟩
  | 62 => ⟨S_, .f32⟩
  | 63 => ⟨S2x8256x3072, .f32⟩
  | 64 => ⟨S2x8256x3072, .f32⟩
  | 65 => ⟨S2x8256x3072, .f32⟩
  | 66 => ⟨S2x8256x2048, .f32⟩
  | 67 => ⟨S2x8256x512, .f32⟩
  | 68 => ⟨S2x8256x512, .f32⟩
  | 69 => ⟨S32, .f32⟩
  | 70 => ⟨S1x1x32, .f32⟩
  | 71 => ⟨S2x8256x32, .f32⟩
  | 72 => ⟨S2x8256x32, .f32⟩
  | 73 => ⟨S_, .f32⟩
  | 74 => ⟨S2x8256x32, .f32⟩
  | 75 => ⟨S2x8256x32, .f32⟩
  | 76 => ⟨S2x8256x32, .f32⟩
  | 77 => ⟨S2x8256x32, .f32⟩
  | 78 => ⟨S2x8256x32, .i1⟩
  | 79 => ⟨S2x8256x32, .f32⟩
  | 80 => ⟨S2x8256x32, .f32⟩
  | 81 => ⟨S2x8256x32, .f32⟩
  | 82 => ⟨S2x8256x32, .f32⟩
  | 83 => ⟨S2x8256x32, .f32⟩
  | 84 => ⟨S2x8256x32, .f32⟩
  | 85 => ⟨S2x8256x32, .f32⟩
  | 86 => ⟨S2x8256x32, .f32⟩
  | 87 => ⟨S2x8256x32, .f32⟩
  | 88 => ⟨S2x8256x32, .f32⟩
  | 89 => ⟨S32, .f32⟩
  | 90 => ⟨S32, .f32⟩
  | 91 => ⟨S32, .f32⟩
  | 92 => ⟨S2x8256x32x64, .f32⟩
  | 93 => ⟨S2x8256x4x128, .f32⟩
  | 94 => ⟨S2x8256x4x128, .f32⟩
  | 95 => ⟨S2x8256x32x1, .f32⟩
  | 96 => ⟨S2x8256x32x64, .f32⟩
  | 97 => ⟨S2x8256x32x64, .f32⟩
  | 98 => ⟨S2x129x64x4x8x64, .f32⟩
  | 99 => ⟨S1x1x32, .f32⟩
  | 100 => ⟨S2x8256x32, .f32⟩
  | 101 => ⟨S2x8256x32, .f32⟩
  | 102 => ⟨S2x129x64x4x8, .f32⟩
  | 103 => ⟨S2x129x4x8x64, .f32⟩
  | 104 => ⟨S_, .f32⟩
  | 105 => ⟨S_, .f32⟩
  | 106 => ⟨S2x129x4x8x64, .f32⟩
  | 107 => ⟨S2x129x64x4x128, .f32⟩
  | 108 => ⟨S2x129x64x4x128, .f32⟩
  | 109 => ⟨S2x129x4x64x64, .f32⟩
  | 110 => ⟨S2x129x4x1x64x64, .f32⟩
  | 111 => ⟨S_, .i1⟩
  | 112 => ⟨S64x64, .i1⟩
  | 113 => ⟨S64x64, .i32⟩
  | 114 => ⟨S_, .i32⟩
  | 115 => ⟨S64x64, .i32⟩
  | 116 => ⟨S64x64, .i32⟩
  | 117 => ⟨S64x64, .i32⟩
  | 118 => ⟨S64x64, .i1⟩
  | 119 => ⟨S_, .i1⟩
  | 120 => ⟨S64x64, .i1⟩
  | 121 => ⟨S64x64, .i1⟩
  | 122 => ⟨S2x129x4x8x64x1, .f32⟩
  | 123 => ⟨S2x129x4x8x1x64, .f32⟩
  | 124 => ⟨S2x129x4x8x64x64, .f32⟩
  | 125 => ⟨S2x129x4x8x64x64, .f32⟩
  | 126 => ⟨S2x129x4x8x64x64, .f32⟩
  | 127 => ⟨S_, .f32⟩
  | _ => ⟨S2x8256x11264, .bf16⟩

abbrev hbmTy0_1 (i : Nat) : BufTy := match i % 128 with
  | 0 => ⟨S_, .f32⟩
  | 1 => ⟨S2x129x4x8x64x64, .i1⟩
  | 2 => ⟨S2x129x4x8x64x64, .f32⟩
  | 3 => ⟨S2x129x4x8x64x64, .f32⟩
  | 4 => ⟨S2x129x4x8x64x64, .f32⟩
  | 5 => ⟨S2x129x4x8x64x64, .f32⟩
  | 6 => ⟨S2x129x4x8x64x64, .f32⟩
  | 7 => ⟨S2x129x4x8x64x64, .f32⟩
  | 8 => ⟨S2x129x64x4x8x64, .f32⟩
  | 9 => ⟨S2x129x4x8x1, .f32⟩
  | 10 => ⟨S2x129x4x8x64, .f32⟩
  | 11 => ⟨S2x129x4x8x64, .f32⟩
  | 12 => ⟨S2x129x4x8x64, .f32⟩
  | 13 => ⟨S2x129x64x4x8, .f32⟩
  | 14 => ⟨S2x129x64x4x8x1, .f32⟩
  | 15 => ⟨S2x129x64x4x8x64, .f32⟩
  | 16 => ⟨S2x129x64x4x8x64, .f32⟩
  | 17 => ⟨S2x129x4x8x64x128, .f32⟩
  | 18 => ⟨S2x129x4x8x1, .f32⟩
  | 19 => ⟨S2x129x4x8, .f32⟩
  | 20 => ⟨S2x129x4x8, .f32⟩
  | 21 => ⟨S_, .f32⟩
  | 22 => ⟨S2x4x8x64x128, .f32⟩
  | 23 => ⟨S129x2x4x8x64x128, .f32⟩
  | 24 => ⟨S129x2x4x8, .f32⟩
  | 25 => ⟨S_, .f32⟩
  | 26 => ⟨S129x2x4x8x64x128, .f32⟩
  | 27 => ⟨S_, .i32⟩
  | 28 => ⟨S129x2x4x8x64x128, .f32⟩
  | 29 => ⟨S129x2x4x8, .f32⟩
  | 30 => ⟨S_, .i32⟩
  | 31 => ⟨S2x4x8x64x128, .f32⟩
  | 32 => ⟨S129x2x4x8x64x128, .f32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S1x2x4x8x64x128, .f32⟩
  | 41 => ⟨S2x4x8x64x128, .f32⟩
  | 42 => ⟨S_, .i32⟩
  | 43 => ⟨S_, .i32⟩
  | 44 => ⟨S_, .i32⟩
  | 45 => ⟨S1x2x4x8, .f32⟩
  | 46 => ⟨S2x4x8, .f32⟩
  | 47 => ⟨S2x4x8x1x1, .f32⟩
  | 48 => ⟨S2x4x8x64x128, .f32⟩
  | 49 => ⟨S2x4x8x64x128, .f32⟩
  | 50 => ⟨S2x4x8x64x128, .f32⟩
  | 51 => ⟨S1x2x4x8x64x128, .f32⟩
  | 52 => ⟨S_, .i32⟩
  | 53 => ⟨S_, .i32⟩
  | 54 => ⟨S_, .i32⟩
  | 55 => ⟨S_, .i32⟩
  | 56 => ⟨S_, .i32⟩
  | 57 => ⟨S129x2x4x8x64x128, .f32⟩
  | 58 => ⟨S_, .i32⟩
  | 59 => ⟨S_, .i32⟩
  | 60 => ⟨S2x129x4x8x64x128, .f32⟩
  | 61 => ⟨S2x129x4x8x64x64, .f32⟩
  | 62 => ⟨S2x129x64x4x8x64, .f32⟩
  | 63 => ⟨S2x129x4x8x64, .f32⟩
  | 64 => ⟨S2x129x64x4x8, .f32⟩
  | 65 => ⟨S2x129x64x4x8x1, .f32⟩
  | 66 => ⟨S2x129x64x4x8x64, .f32⟩
  | 67 => ⟨S2x129x64x4x8x64, .f32⟩
  | 68 => ⟨S2x129x64x4x8x64, .f32⟩
  | 69 => ⟨S2x8256x32x64, .f32⟩
  | 70 => ⟨S32, .f32⟩
  | 71 => ⟨S32x1, .f32⟩
  | 72 => ⟨S1x1x32x1, .f32⟩
  | 73 => ⟨S2x8256x32x64, .f32⟩
  | 74 => ⟨S2x8256x32x64, .f32⟩
  | 75 => ⟨S2x8256x32x64, .f32⟩
  | 76 => ⟨S2x8256x2048, .f32⟩
  | 77 => ⟨S2x8256x2048, .f32⟩
  | 78 => ⟨S2x8256x2048, .f32⟩
  | 79 => ⟨S_, .f32⟩
  | 80 => ⟨S2x8256x2048, .f32⟩
  | 81 => ⟨S2x8256x2048, .f32⟩
  | 82 => ⟨S_, .f32⟩
  | 83 => ⟨S2x8256x2048, .f32⟩
  | 84 => ⟨S2x8256x2048, .f32⟩
  | 85 => ⟨S2x8256x2048, .f32⟩
  | 86 => ⟨S2x8256x2048, .f32⟩
  | 87 => ⟨S2x8256x4x512, .f32⟩
  | 88 => ⟨S2x8256x4x512, .f32⟩
  | 89 => ⟨S_, .f32⟩
  | 90 => ⟨S2x8256x4, .f32⟩
  | 91 => ⟨S2x8256x4x1, .f32⟩
  | 92 => ⟨S_, .f32⟩
  | 93 => ⟨S2x8256x4x1, .f32⟩
  | 94 => ⟨S2x8256x4x1, .f32⟩
  | 95 => ⟨S_, .f32⟩
  | 96 => ⟨S2x8256x4x1, .f32⟩
  | 97 => ⟨S2x8256x4x1, .f32⟩
  | 98 => ⟨S2x8256x4x1, .f32⟩
  | 99 => ⟨S2x8256x4x512, .f32⟩
  | 100 => ⟨S2x8256x4x512, .f32⟩
  | 101 => ⟨S2x8256x2048, .f32⟩
  | 102 => ⟨S2048, .f32⟩
  | 103 => ⟨S1x1x2048, .f32⟩
  | 104 => ⟨S2x8256x2048, .f32⟩
  | 105 => ⟨S2x8256x2048, .f32⟩
  | 106 => ⟨S2x8192x2048, .f32⟩
  | 107 => ⟨S2x8192x2048, .bf16⟩
  | _ => ⟨S2x8256x11264, .bf16⟩

abbrev hbmTy (i : Nat) : BufTy := match i / 128 with
  | 0 => hbmTy0_0 i
  | 1 => hbmTy0_1 i
  | _ => ⟨S2x8256x11264, .bf16⟩

abbrev bufTy : (tb : Table) → Fin (tcTables nBuf tb) → BufTy
  | .hbm, ⟨i, _⟩ => hbmTy i
  | _, _ => ⟨S2x8256x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call3_call0_cst : Ref sig .tc := ⟨.hbm, 104, rfl⟩
abbrev main_call3_call0_v0 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_1 : Ref sig .tc := ⟨.hbm, 111, rfl⟩
abbrev main_v76 : Ref sig .tc := ⟨.hbm, 112, rfl⟩
abbrev main_call4_v0 : Ref sig .tc := ⟨.hbm, 113, rfl⟩
abbrev main_call4_c : Ref sig .tc := ⟨.hbm, 114, rfl⟩
abbrev main_call4_v1 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_c_0 : Ref sig .tc := ⟨.hbm, 119, rfl⟩
abbrev main_call4_v5 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_2 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_3 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_4 : Ref sig .tc := ⟨.hbm, 153, rfl⟩
abbrev main_v104 : Ref sig .tc := ⟨.hbm, 154, rfl⟩
abbrev main_c_5 : Ref sig .tc := ⟨.hbm, 155, rfl⟩
abbrev main_v105_0 : Ref sig .tc := ⟨.hbm, 156, rfl⟩
abbrev main_v105_1 : Ref sig .tc := ⟨.hbm, 157, rfl⟩
abbrev main_v105_2 : Ref sig .tc := ⟨.hbm, 158, rfl⟩
abbrev main_v105_3 : Ref sig .tc := ⟨.hbm, 159, rfl⟩
abbrev main_v105_4 : Ref sig .tc := ⟨.hbm, 160, rfl⟩
abbrev main_while0c_c_13 : Ref sig .tc := ⟨.hbm, 161, rfl⟩
abbrev main_while0c_v143 : Ref sig .tc := ⟨.hbm, 162, rfl⟩
abbrev main_while0b_call6_c : Ref sig .tc := ⟨.hbm, 163, rfl⟩
abbrev main_while0b_call6_c_0 : Ref sig .tc := ⟨.hbm, 164, rfl⟩
abbrev main_while0b_call6_c_1 : Ref sig .tc := ⟨.hbm, 165, rfl⟩
abbrev main_while0b_call6_c_2 : Ref sig .tc := ⟨.hbm, 166, rfl⟩
abbrev main_while0b_call6_c_3 : Ref sig .tc := ⟨.hbm, 167, rfl⟩
abbrev main_while0b_call6_v0 : Ref sig .tc := ⟨.hbm, 168, rfl⟩
abbrev main_while0b_v143 : Ref sig .tc := ⟨.hbm, 169, rfl⟩
abbrev main_while0b_call7_c : Ref sig .tc := ⟨.hbm, 170, rfl⟩
abbrev main_while0b_call7_c_0 : Ref sig .tc := ⟨.hbm, 171, rfl⟩
abbrev main_while0b_call7_c_1 : Ref sig .tc := ⟨.hbm, 172, rfl⟩
abbrev main_while0b_call7_v0 : Ref sig .tc := ⟨.hbm, 173, rfl⟩
abbrev main_while0b_v144 : Ref sig .tc := ⟨.hbm, 174, rfl⟩
abbrev main_while0b_v145 : Ref sig .tc := ⟨.hbm, 175, rfl⟩
abbrev main_while0b_v146 : Ref sig .tc := ⟨.hbm, 176, rfl⟩
abbrev main_while0b_v147 : Ref sig .tc := ⟨.hbm, 177, rfl⟩
abbrev main_while0b_v148 : Ref sig .tc := ⟨.hbm, 178, rfl⟩
abbrev main_while0b_call8_v0 : Ref sig .tc := ⟨.hbm, 179, rfl⟩
abbrev main_while0b_call8_c : Ref sig .tc := ⟨.hbm, 180, rfl⟩
abbrev main_while0b_call8_c_0 : Ref sig .tc := ⟨.hbm, 181, rfl⟩
abbrev main_while0b_call8_c_1 : Ref sig .tc := ⟨.hbm, 182, rfl⟩
abbrev main_while0b_call8_c_2 : Ref sig .tc := ⟨.hbm, 183, rfl⟩
abbrev main_while0b_call8_c_3 : Ref sig .tc := ⟨.hbm, 184, rfl⟩
abbrev main_while0b_v149 : Ref sig .tc := ⟨.hbm, 185, rfl⟩
abbrev main_while0b_c_13 : Ref sig .tc := ⟨.hbm, 186, rfl⟩
abbrev main_while0b_v150 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_call9_v0 : Ref sig .tc := ⟨.hbm, 205, rfl⟩
abbrev main_call9_v1 : Ref sig .tc := ⟨.hbm, 206, rfl⟩
abbrev main_call9_cst : Ref sig .tc := ⟨.hbm, 207, rfl⟩
abbrev main_call9_v2 : Ref sig .tc := ⟨.hbm, 208, rfl⟩
abbrev main_call9_v3 : Ref sig .tc := ⟨.hbm, 209, rfl⟩
abbrev main_call9_cst_0 : Ref sig .tc := ⟨.hbm, 210, rfl⟩
abbrev main_call9_v4 : Ref sig .tc := ⟨.hbm, 211, rfl⟩
abbrev main_call9_v5 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_cst_6 : Ref sig .tc := ⟨.hbm, 217, rfl⟩
abbrev main_v127 : Ref sig .tc := ⟨.hbm, 218, rfl⟩
abbrev main_v128 : Ref sig .tc := ⟨.hbm, 219, rfl⟩
abbrev main_cst_7 : Ref sig .tc := ⟨.hbm, 220, rfl⟩
abbrev main_v129 : Ref sig .tc := ⟨.hbm, 221, rfl⟩
abbrev main_v130 : Ref sig .tc := ⟨.hbm, 222, rfl⟩
abbrev main_cst_8 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩

abbrev nD : Nat := 1
abbrev τ : Topo := Topo.v7x

variable {F : FTy → Type} [FloatOps F]

abbrev main_while0_count : Scf.Loop 32 := ⟨0#32, 129#32, 1#32⟩
-- ==== Dn.lean ====
abbrev S2x8256x11264 : Shape := ⟨3, ![2, 8256, 11264]⟩
abbrev S2x8256x128 : Shape := ⟨3, ![2, 8256, 128]⟩
abbrev S1x4x4096 : Shape := ⟨3, ![1, 4, 4096]⟩
abbrev S1x16 : Shape := ⟨2, ![1, 16]⟩
abbrev S1x128 : Shape := ⟨2, ![1, 128]⟩
abbrev S64x192 : Shape := ⟨2, ![64, 192]⟩
abbrev S192x80 : Shape := ⟨2, ![192, 80]⟩
abbrev S4x4096 : Shape := ⟨2, ![4, 4096]⟩
abbrev S16 : Shape := ⟨1, ![16]⟩
abbrev S_ : Shape := ⟨0, ![]⟩
abbrev S128x3072 : Shape := ⟨2, ![128, 3072]⟩
abbrev S1x128x1x3072 : Shape := ⟨4, ![1, 128, 1, 3072]⟩
abbrev S3x128x1x3072 : Shape := ⟨4, ![3, 128, 1, 3072]⟩
abbrev S384x3072 : Shape := ⟨2, ![384, 3072]⟩
abbrev S2x8192x2048 : Shape := ⟨3, ![2, 8192, 2048]⟩
abbrev S2x64x2048 : Shape := ⟨3, ![2, 64, 2048]⟩
abbrev S2x64x4096 : Shape := ⟨3, ![2, 64, 4096]⟩
abbrev S2x64x128 : Shape := ⟨3, ![2, 64, 128]⟩
abbrev S2x16x4096 : Shape := ⟨3, ![2, 16, 4096]⟩
abbrev S32x128x128 : Shape := ⟨3, ![32, 128, 128]⟩
abbrev S16x128x128 : Shape := ⟨3, ![16, 128, 128]⟩
abbrev S64x1 : Shape := ⟨2, ![64, 1]⟩
abbrev S64x1024 : Shape := ⟨2, ![64, 1024]⟩
abbrev S1x16x4096 : Shape := ⟨3, ![1, 16, 4096]⟩
abbrev S16x4096 : Shape := ⟨2, ![16, 4096]⟩
abbrev S16x256 : Shape := ⟨2, ![16, 256]⟩
abbrev S1x64x4096 : Shape := ⟨3, ![1, 64, 4096]⟩
abbrev S64x4096 : Shape := ⟨2, ![64, 4096]⟩
abbrev S64x256 : Shape := ⟨2, ![64, 256]⟩
abbrev S80x256 : Shape := ⟨2, ![80, 256]⟩
abbrev S192x256 : Shape := ⟨2, ![192, 256]⟩
abbrev S1x256 : Shape := ⟨2, ![1, 256]⟩
abbrev S1x64x128 : Shape := ⟨3, ![1, 64, 128]⟩
abbrev S64x128 : Shape := ⟨2, ![64, 128]⟩
abbrev S192x128 : Shape := ⟨2, ![192, 128]⟩
abbrev S256x128 : Shape := ⟨2, ![256, 128]⟩
abbrev S256x384 : Shape := ⟨2, ![256, 384]⟩
abbrev S256x3072 : Shape := ⟨2, ![256, 3072]⟩
abbrev S64x2048 : Shape := ⟨2, ![64, 2048]⟩
abbrev S1024 : Shape := ⟨1, ![1024]⟩
abbrev S1x1024 : Shape := ⟨2, ![1, 1024]⟩
abbrev S1x2048 : Shape := ⟨2, ![1, 2048]⟩
abbrev S64 : Shape := ⟨1, ![64]⟩
abbrev S128x128 : Shape := ⟨2, ![128, 128]⟩
abbrev S64x64 : Shape := ⟨2, ![64, 64]⟩
abbrev S1x128x128 : Shape := ⟨3, ![1, 128, 128]⟩
abbrev S1x64x64 : Shape := ⟨3, ![1, 64, 64]⟩
abbrev S128x64 : Shape := ⟨2, ![128, 64]⟩

abbrev nBuf : Space → Nat
  | .hbm => 83
  | .vmem => 19
  | .smem => 0
  | _ => 0

abbrev bufTy : (tb : Table) → Fin (tcTables nBuf tb) → BufTy
  | .hbm, ⟨0, _⟩ => ⟨S2x8256x11264, .bf16⟩
  | .hbm, ⟨1, _⟩ => ⟨S2x8256x128, .f32⟩
  | .hbm, ⟨2, _⟩ => ⟨S1x4x4096, .f32⟩
  | .hbm, ⟨3, _⟩ => ⟨S1x16, .f32⟩
  | .hbm, ⟨4, _⟩ => ⟨S1x16, .f32⟩
  | .hbm, ⟨5, _⟩ => ⟨S1x128, .f32⟩
  | .hbm, ⟨6, _⟩ => ⟨S64x192, .bf16⟩
  | .hbm, ⟨7, _⟩ => ⟨S192x80, .bf16⟩
  | .hbm, ⟨8, _⟩ => ⟨S4x4096, .f32⟩
  | .hbm, ⟨9, _⟩ => ⟨S16, .f32⟩
  | .hbm, ⟨10, _⟩ => ⟨S_, .f32⟩
  | .hbm, ⟨11, _⟩ => ⟨S1x128, .f32⟩
  | .hbm, ⟨12, _⟩ => ⟨S1x16, .f32⟩
  | .hbm, ⟨13, _⟩ => ⟨S_, .i32⟩
  | .hbm, ⟨14, _⟩ => ⟨S_, .i32⟩
  | .hbm, ⟨15, _⟩ => ⟨S1x128, .f32⟩
  | .hbm, ⟨16, _⟩ => ⟨S16, .f32⟩
  | .hbm, ⟨17, _⟩ => ⟨S_, .f32⟩
  | .hbm, ⟨18, _⟩ => ⟨S1x128, .f32⟩
  | .hbm, ⟨19, _⟩ => ⟨S1x16, .f32⟩
  | .hbm, ⟨20, _⟩ => ⟨S_, .i32⟩
  | .hbm, ⟨21, _⟩ => ⟨S_, .i32⟩
  | .hbm, ⟨22, _⟩ => ⟨S1x128, .f32⟩
  | .hbm, ⟨23, _⟩ => ⟨S128x3072, .i32⟩
  | .hbm, ⟨24, _⟩ => ⟨S128x3072, .i32⟩
  | .hbm, ⟨25, _⟩ => ⟨S_, .i32⟩
  | .hbm, ⟨26, _⟩ => ⟨S128x3072, .i32⟩
  | .hbm, ⟨27, _⟩ => ⟨S128x3072, .i1⟩
  | .hbm, ⟨28, _⟩ => ⟨S_, .i32⟩
  | .hbm, ⟨29, _⟩ => ⟨S_, .i32⟩
  | .hbm, ⟨30, _⟩ => ⟨S128x3072, .i32⟩
  | .hbm, ⟨31, _⟩ => ⟨S128x3072, .i32⟩
  | .hbm, ⟨32, _⟩ => ⟨S128x3072, .i32⟩
  | .hbm, ⟨33, _⟩ => ⟨S_, .i32⟩
  | .hbm, ⟨34, _⟩ => ⟨S128x3072, .i32⟩
  | .hbm, ⟨35, _⟩ => ⟨S128x3072, .i1⟩
  | .hbm, ⟨36, _⟩ => ⟨S128x3072, .i32⟩
  | .hbm, ⟨37, _⟩ => ⟨S128x3072, .i32⟩
  | .hbm, ⟨38, _⟩ => ⟨S_, .i32⟩
  | .hbm, ⟨39, _⟩ => ⟨S128x3072, .i32⟩
  | .hbm, ⟨40, _⟩ => ⟨S128x3072, .i1⟩
  | .hbm, ⟨41, _⟩ => ⟨S128x3072, .i1⟩
  | .hbm, ⟨42, _⟩ => ⟨S_, .i32⟩
  | .hbm, ⟨43, _⟩ => ⟨S128x3072, .i32⟩
  | .hbm, ⟨44, _⟩ => ⟨S128x3072, .i32⟩
  | .hbm, ⟨45, _⟩ => ⟨S128x3072, .i32⟩
  | .hbm, ⟨46, _⟩ => ⟨S_, .i32⟩
  | .hbm, ⟨47, _⟩ => ⟨S128x3072, .i32⟩
  | .hbm, ⟨48, _⟩ => ⟨S128x3072, .i32⟩
  | .hbm, ⟨49, _⟩ => ⟨S_, .i32⟩
  | .hbm, ⟨50, _⟩ => ⟨S_, .i32⟩
  | .hbm, ⟨51, _⟩ => ⟨S128x3072, .i32⟩
  | .hbm, ⟨52, _⟩ => ⟨S128x3072, .i32⟩
  | .hbm, ⟨53, _⟩ => ⟨S128x3072, .i32⟩
  | .hbm, ⟨54, _⟩ => ⟨S_, .i32⟩
  | .hbm, ⟨55, _⟩ => ⟨S128x3072, .i32⟩
  | .hbm, ⟨56, _⟩ => ⟨S128x3072, .i1⟩
  | .hbm, ⟨57, _⟩ => ⟨S128x3072, .i32⟩
  | .hbm, ⟨58, _⟩ => ⟨S128x3072, .i32⟩
  | .hbm, ⟨59, _⟩ => ⟨S_, .i32⟩
  | .hbm, ⟨60, _⟩ => ⟨S128x3072, .i32⟩
  | .hbm, ⟨61, _⟩ => ⟨S128x3072, .i1⟩
  | .hbm, ⟨62, _⟩ => ⟨S128x3072, .i1⟩
  | .hbm, ⟨63, _⟩ => ⟨S_, .i32⟩
  | .hbm, ⟨64, _⟩ => ⟨S128x3072, .i32⟩
  | .hbm, ⟨65, _⟩ => ⟨S128x3072, .i32⟩
  | .hbm, ⟨66, _⟩ => ⟨S128x3072, .i32⟩
  | .hbm, ⟨67, _⟩ => ⟨S128x3072, .i32⟩
  | .hbm, ⟨68, _⟩ => ⟨S_, .i32⟩
  | .hbm, ⟨69, _⟩ => ⟨S128x3072, .i32⟩
  | .hbm, ⟨70, _⟩ => ⟨S128x3072, .i32⟩
  | .hbm, ⟨71, _⟩ => ⟨S128x3072, .i1⟩
  | .hbm, ⟨72, _⟩ => ⟨S_, .i32⟩
  | .hbm, ⟨73, _⟩ => ⟨S128x3072, .i32⟩
  | .hbm, ⟨74, _⟩ => ⟨S128x3072, .i32⟩
  | .hbm, ⟨75, _⟩ => ⟨S128x3072, .i1⟩
  | .hbm, ⟨76, _⟩ => ⟨S128x3072, .i1⟩
  | .hbm, ⟨77, _⟩ => ⟨S128x3072, .f32⟩
  | .hbm, ⟨78, _⟩ => ⟨S128x3072, .bf16⟩
  | .hbm, ⟨79, _⟩ => ⟨S1x128x1x3072, .bf16⟩
  | .hbm, ⟨80, _⟩ => ⟨S3x128x1x3072, .bf16⟩
  | .hbm, ⟨81, _⟩ => ⟨S384x3072, .bf16⟩
  | .hbm, ⟨82, _⟩ => ⟨S2x8192x2048, .bf16⟩
  | .local _ .vmem, ⟨0, _⟩ => ⟨S2x64x2048, .bf16⟩
  | .local _ .vmem, ⟨1, _⟩ => ⟨S2x64x2048, .bf16⟩
  | .local _ .vmem, ⟨2, _⟩ => ⟨S2x64x4096, .bf16⟩
  | .local _ .vmem, ⟨3, _⟩ => ⟨S2x64x4096, .bf16⟩
  | .local _ .vmem, ⟨4, _⟩ => ⟨S2x64x128, .f32⟩
  | .local _ .vmem, ⟨5, _⟩ => ⟨S2x64x128, .f32⟩
  | .local _ .vmem, ⟨6, _⟩ => ⟨S4x4096, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S64x192, .bf16⟩
  | .local _ .vmem, ⟨11, _⟩ => ⟨S384x3072, .bf16⟩
  | .local _ .vmem, ⟨12, _⟩ => ⟨S192x80, .bf16⟩
  | .local _ .vmem, ⟨13, _⟩ => ⟨S2x64x2048, .bf16⟩
  | .local _ .vmem, ⟨14, _⟩ => ⟨S2x64x2048, .bf16⟩
  | .local _ .vmem, ⟨15, _⟩ => ⟨S2x16x4096, .bf16⟩
  | .local _ .vmem, ⟨16, _⟩ => ⟨S2x64x4096, .f32⟩
  | .local _ .vmem, ⟨17, _⟩ => ⟨S32x128x128, .f32⟩
  | .local _ .vmem, ⟨18, _⟩ => ⟨S16x128x128, .bf16⟩
  | _, _ => ⟨S2x8256x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_c_2 : Ref sig .tc := ⟨.hbm, 14, rfl⟩
abbrev main_v4 : Ref sig .tc := ⟨.hbm, 15, rfl⟩
abbrev main_v5 : Ref sig .tc := ⟨.hbm, 16, rfl⟩
abbrev main_cst_3 : Ref sig .tc := ⟨.hbm, 17, rfl⟩
abbrev main_v6 : Ref sig .tc := ⟨.hbm, 18, rfl⟩
abbrev main_v7 : Ref sig .tc := ⟨.hbm, 19, rfl⟩
abbrev main_c_4 : Ref sig .tc := ⟨.hbm, 20, rfl⟩
abbrev main_c_5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_6 : Ref sig .tc := ⟨.hbm, 25, rfl⟩
abbrev main_v11 : Ref sig .tc := ⟨.hbm, 26, rfl⟩
abbrev main_v12 : Ref sig .tc := ⟨.hbm, 27, rfl⟩
abbrev main_c_7 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v13 : Ref sig .tc := ⟨.hbm, 45, rfl⟩
abbrev main_c_8 : Ref sig .tc := ⟨.hbm, 46, rfl⟩
abbrev main_v14 : Ref sig .tc := ⟨.hbm, 47, rfl⟩
abbrev main_v15 : Ref sig .tc := ⟨.hbm, 48, rfl⟩
abbrev main_c_9 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v16 : Ref sig .tc := ⟨.hbm, 66, rfl⟩
abbrev main_v17 : Ref sig .tc := ⟨.hbm, 67, rfl⟩
abbrev main_c_10 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_c_11 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![129], ![false]⟩

def cc0_transform_0 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 2 → Memref sig .tc .vmem S2x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S192x80 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== DnRefIdeal.lean ====
abbrev S2x8256x11264 : Shape := ⟨3, ![2, 8256, 11264]⟩
abbrev S2x8256x128 : Shape := ⟨3, ![2, 8256, 128]⟩
abbrev S1x4x4096 : Shape := ⟨3, ![1, 4, 4096]⟩
abbrev S1x16 : Shape := ⟨2, ![1, 16]⟩
abbrev S1x128 : Shape := ⟨2, ![1, 128]⟩
abbrev S2x8256x2048 : Shape := ⟨3, ![2, 8256, 2048]⟩
abbrev S2x8256x4096 : Shape := ⟨3, ![2, 8256, 4096]⟩
abbrev S2x8256x16 : Shape := ⟨3, ![2, 8256, 16]⟩
abbrev S8256 : Shape := ⟨1, ![8256]⟩
abbrev S_ : Shape := ⟨0, ![]⟩
abbrev S1x8256x1 : Shape := ⟨3, ![1, 8256, 1]⟩
abbrev S4x4096 : Shape := ⟨2, ![4, 4096]⟩
abbrev S2x8259x4096 : Shape := ⟨3, ![2, 8259, 4096]⟩
abbrev S1x4096 : Shape := ⟨2, ![1, 4096]⟩
abbrev S4096 : Shape := ⟨1, ![4096]⟩
abbrev S1x1x4096 : Shape := ⟨3, ![1, 1, 4096]⟩
abbrev S2x8256x1024 : Shape := ⟨3, ![2, 8256, 1024]⟩
abbrev S2x8256x8x128 : Shape := ⟨4, ![2, 8256, 8, 128]⟩
abbrev S2x8256x8 : Shape := ⟨3, ![2, 8256, 8]⟩
abbrev S2x8256x8x1 : Shape := ⟨4, ![2, 8256, 8, 1]⟩
abbrev S2x8256x8x2x128 : Shape := ⟨5, ![2, 8256, 8, 2, 128]⟩
abbrev S2x8256x16x128 : Shape := ⟨4, ![2, 8256, 16, 128]⟩
abbrev S16 : Shape := ⟨1, ![16]⟩
abbrev S1x1x16 : Shape := ⟨3, ![1, 1, 16]⟩
abbrev S2x16x128x128 : Shape := ⟨4, ![2, 16, 128, 128]⟩
abbrev S8256x2x16x128 : Shape := ⟨4, ![8256, 2, 16, 128]⟩
abbrev S8256x2x16 : Shape := ⟨3, ![8256, 2, 16]⟩
abbrev S1x2x16x128 : Shape := ⟨4, ![1, 2, 16, 128]⟩
abbrev S2x16x128 : Shape := ⟨3, ![2, 16, 128]⟩
abbrev S1x2x16 : Shape := ⟨3, ![1, 2, 16]⟩
abbrev S2x16 : Shape := ⟨2, ![2, 16]⟩
abbrev S2x16x1x1 : Shape := ⟨4, ![2, 16, 1, 1]⟩
abbrev S2x16x1 : Shape := ⟨3, ![2, 16, 1]⟩
abbrev S2x16x128x1 : Shape := ⟨4, ![2, 16, 128, 1]⟩
abbrev S2x16x1x128 : Shape := ⟨4, ![2, 16, 1, 128]⟩
abbrev S2x8256x16x1x128 : Shape := ⟨5, ![2, 8256, 16, 1, 128]⟩
abbrev S2x8256x16x1 : Shape := ⟨4, ![2, 8256, 16, 1]⟩
abbrev S2x8256x16x1x1 : Shape := ⟨5, ![2, 8256, 16, 1, 1]⟩
abbrev S128 : Shape := ⟨1, ![128]⟩
abbrev S1x1x1x128 : Shape := ⟨4, ![1, 1, 1, 128]⟩
abbrev S2x8192x2048 : Shape := ⟨3, ![2, 8192, 2048]⟩

abbrev nBuf : Space → Nat
  | .hbm => 229
  | .vmem => 0
  | .smem => 0
  | _ => 0

abbrev hbmTy0_0 (i : Nat) : BufTy := match i % 128 with
  | 0 => ⟨S2x8256x11264, .bf16⟩
  | 1 => ⟨S2x8256x128, .f32⟩
  | 2 => ⟨S1x4x4096, .f32⟩
  | 3 => ⟨S1x16, .f32⟩
  | 4 => ⟨S1x16, .f32⟩
  | 5 => ⟨S1x128, .f32⟩
  | 6 => ⟨S2x8256x2048, .bf16⟩
  | 7 => ⟨S2x8256x2048, .f32⟩
  | 8 => ⟨S2x8256x4096, .bf16⟩
  | 9 => ⟨S2x8256x4096, .f32⟩
  | 10 => ⟨S2x8256x16, .f32⟩
  | 11 => ⟨S2x8256x16, .f32⟩
  | 12 => ⟨S8256, .i32⟩
  | 13 => ⟨S_, .i32⟩
  | 14 => ⟨S8256, .i32⟩
  | 15 => ⟨S8256, .i1⟩
  | 16 => ⟨S8256, .f32⟩
  | 17 => ⟨S1x8256x1, .f32⟩
  | 18 => ⟨S4x4096, .f32⟩
  | 19 => ⟨S_, .i32⟩
  | 20 => ⟨S_, .f32⟩
  | 21 => ⟨S2x8259x4096, .f32⟩
  | 22 => ⟨S1x4096, .f32⟩
  | 23 => ⟨S4096, .f32⟩
  | 24 => ⟨S2x8256x4096, .f32⟩
  | 25 => ⟨S1x1x4096, .f32⟩
  | 26 => ⟨S2x8256x4096, .f32⟩
  | 27 => ⟨S2x8256x4096, .f32⟩
  | 28 => ⟨S_, .f32⟩
  | 29 => ⟨S2x8256x4096, .f32⟩
  | 30 => ⟨S2x8256x4096, .f32⟩
  | 31 => ⟨S1x4096, .f32⟩
  | 32 => ⟨S4096, .f32⟩
  | 33 => ⟨S2x8256x4096, .f32⟩
  | 34 => ⟨S1x1x4096, .f32⟩
  | 35 => ⟨S2x8256x4096, .f32⟩
  | 36 => ⟨S2x8256x4096, .f32⟩
  | 37 => ⟨S2x8256x4096, .f32⟩
  | 38 => ⟨S1x4096, .f32⟩
  | 39 => ⟨S4096, .f32⟩
  | 40 => ⟨S2x8256x4096, .f32⟩
  | 41 => ⟨S1x1x4096, .f32⟩
  | 42 => ⟨S2x8256x4096, .f32⟩
  | 43 => ⟨S2x8256x4096, .f32⟩
  | 44 => ⟨S2x8256x4096, .f32⟩
  | 45 => ⟨S1x4096, .f32⟩
  | 46 => ⟨S4096, .f32⟩
  | 47 => ⟨S2x8256x4096, .f32⟩
  | 48 => ⟨S1x1x4096, .f32⟩
  | 49 => ⟨S2x8256x4096, .f32⟩
  | 50 => ⟨S2x8256x4096, .f32⟩
  | 51 => ⟨S2x8256x4096, .f32⟩
  | 52 => ⟨S2x8256x4096, .f32⟩
  | 53 => ⟨S2x8256x4096, .f32⟩
  | 54 => ⟨S_, .f32⟩
  | 55 => ⟨S2x8256x4096, .f32⟩
  | 56 => ⟨S2x8256x4096, .f32⟩
  | 57 => ⟨S_, .f32⟩
  | 58 => ⟨S2x8256x4096, .f32⟩
  | 59 => ⟨S2x8256x4096, .f32⟩
  | 60 => ⟨S2x8256x4096, .f32⟩
  | 61 => ⟨S2x8256x1024, .f32⟩
  | 62 => ⟨S2x8256x1024, .f32⟩
  | 63 => ⟨S2x8256x2048, .f32⟩
  | 64 => ⟨S2x8256x8x128, .f32⟩
  | 65 => ⟨S2x8256x8x128, .f32⟩
  | 66 => ⟨S_, .f32⟩
  | 67 => ⟨S2x8256x8, .f32⟩
  | 68 => ⟨S2x8256x8x1, .f32⟩
  | 69 => ⟨S_, .f32⟩
  | 70 => ⟨S2x8256x8x1, .f32⟩
  | 71 => ⟨S2x8256x8x1, .f32⟩
  | 72 => ⟨S2x8256x8x1, .f32⟩
  | 73 => ⟨S2x8256x8x128, .f32⟩
  | 74 => ⟨S2x8256x8x128, .f32⟩
  | 75 => ⟨S_, .f32⟩
  | 76 => ⟨S2x8256x8x128, .f32⟩
  | 77 => ⟨S2x8256x8x128, .f32⟩
  | 78 => ⟨S2x8256x8x2x128, .f32⟩
  | 79 => ⟨S2x8256x16x128, .f32⟩
  | 80 => ⟨S2x8256x8x128, .f32⟩
  | 81 => ⟨S2x8256x8x128, .f32⟩
  | 82 => ⟨S_, .f32⟩
  | 83 => ⟨S2x8256x8, .f32⟩
  | 84 => ⟨S2x8256x8x1, .f32⟩
  | 85 => ⟨S_, .f32⟩
  | 86 => ⟨S2x8256x8x1, .f32⟩
  | 87 => ⟨S2x8256x8x1, .f32⟩
  | 88 => ⟨S2x8256x8x1, .f32⟩
  | 89 => ⟨S2x8256x8x128, .f32⟩
  | 90 => ⟨S2x8256x8x128, .f32⟩
  | 91 => ⟨S2x8256x8x2x128, .f32⟩
  | 92 => ⟨S2x8256x16x128, .f32⟩
  | 93 => ⟨S2x8256x16x128, .f32⟩
  | 94 => ⟨S2x8256x16, .f32⟩
  | 95 => ⟨S2x8256x16, .f32⟩
  | 96 => ⟨S_, .f32⟩
  | 97 => ⟨S2x8256x16, .f32⟩
  | 98 => ⟨S2x8256x16, .f32⟩
  | 99 => ⟨S_, .f32⟩
  | 100 => ⟨S2x8256x16, .f32⟩
  | 101 => ⟨S2x8256x16, .f32⟩
  | 102 => ⟨S2x8256x16, .f32⟩
  | 103 => ⟨S2x8256x16, .f32⟩
  | 104 => ⟨S16, .f32⟩
  | 105 => ⟨S16, .f32⟩
  | 106 => ⟨S16, .f32⟩
  | 107 => ⟨S16, .f32⟩
  | 108 => ⟨S1x1x16, .f32⟩
  | 109 => ⟨S2x8256x16, .f32⟩
  | 110 => ⟨S2x8256x16, .f32⟩
  | 111 => ⟨S_, .f32⟩
  | 112 => ⟨S2x8256x16, .f32⟩
  | 113 => ⟨S2x8256x16, .f32⟩
  | 114 => ⟨S2x8256x16, .f32⟩
  | 115 => ⟨S2x8256x16, .f32⟩
  | 116 => ⟨S2x8256x16, .i1⟩
  | 117 => ⟨S2x8256x16, .f32⟩
  | 118 => ⟨S2x8256x16, .f32⟩
  | 119 => ⟨S2x8256x16, .f32⟩
  | 120 => ⟨S2x8256x16, .f32⟩
  | 121 => ⟨S2x8256x16, .f32⟩
  | 122 => ⟨S2x8256x16, .f32⟩
  | 123 => ⟨S2x8256x16, .f32⟩
  | 124 => ⟨S2x8256x16, .f32⟩
  | 125 => ⟨S1x1x16, .f32⟩
  | 126 => ⟨S2x8256x16, .f32⟩
  | 127 => ⟨S2x8256x16, .f32⟩
  | _ => ⟨S2x8256x11264, .bf16⟩

abbrev hbmTy0_1 (i : Nat) : BufTy := match i % 128 with
  | 0 => ⟨S2x8256x16, .f32⟩
  | 1 => ⟨S2x8256x16, .f32⟩
  | 2 => ⟨S_, .f32⟩
  | 3 => ⟨S2x16x128x128, .f32⟩
  | 4 => ⟨S8256x2x16x128, .f32⟩
  | 5 => ⟨S8256x2x16x128, .f32⟩
  | 6 => ⟨S8256x2x16x128, .f32⟩
  | 7 => ⟨S8256x2x16, .f32⟩
  | 8 => ⟨S8256x2x16, .f32⟩
  | 9 => ⟨S_, .f32⟩
  | 10 => ⟨S8256x2x16x128, .f32⟩
  | 11 => ⟨S_, .i32⟩
  | 12 => ⟨S8256x2x16x128, .f32⟩
  | 13 => ⟨S8256x2x16x128, .f32⟩
  | 14 => ⟨S8256x2x16x128, .f32⟩
  | 15 => ⟨S8256x2x16, .f32⟩
  | 16 => ⟨S8256x2x16, .f32⟩
  | 17 => ⟨S_, .i32⟩
  | 18 => ⟨S2x16x128x128, .f32⟩
  | 19 => ⟨S8256x2x16x128, .f32⟩
  | 20 => ⟨S_, .i32⟩
  | 21 => ⟨S_, .i1⟩
  | 22 => ⟨S_, .i32⟩
  | 23 => ⟨S_, .i32⟩
  | 24 => ⟨S_, .i32⟩
  | 25 => ⟨S1x2x16x128, .f32⟩
  | 26 => ⟨S2x16x128, .f32⟩
  | 27 => ⟨S_, .i32⟩
  | 28 => ⟨S_, .i32⟩
  | 29 => ⟨S_, .i32⟩
  | 30 => ⟨S1x2x16x128, .f32⟩
  | 31 => ⟨S2x16x128, .f32⟩
  | 32 => ⟨S_, .i32⟩
  | 33 => ⟨S_, .i32⟩
  | 34 => ⟨S_, .i32⟩
  | 35 => ⟨S1x2x16x128, .f32⟩
  | 36 => ⟨S2x16x128, .f32⟩
  | 37 => ⟨S_, .i32⟩
  | 38 => ⟨S_, .i32⟩
  | 39 => ⟨S1x2x16, .f32⟩
  | 40 => ⟨S2x16, .f32⟩
  | 41 => ⟨S_, .i32⟩
  | 42 => ⟨S_, .i32⟩
  | 43 => ⟨S1x2x16, .f32⟩
  | 44 => ⟨S2x16, .f32⟩
  | 45 => ⟨S2x16, .f32⟩
  | 46 => ⟨S2x16x1x1, .f32⟩
  | 47 => ⟨S2x16x128x128, .f32⟩
  | 48 => ⟨S2x16x128x128, .f32⟩
  | 49 => ⟨S2x16x1, .f32⟩
  | 50 => ⟨S2x16x128, .f32⟩
  | 51 => ⟨S2x16x128, .f32⟩
  | 52 => ⟨S2x16x128, .f32⟩
  | 53 => ⟨S2x16x128, .f32⟩
  | 54 => ⟨S2x16x128x1, .f32⟩
  | 55 => ⟨S2x16x1x128, .f32⟩
  | 56 => ⟨S2x16x128x128, .f32⟩
  | 57 => ⟨S2x16x128x128, .f32⟩
  | 58 => ⟨S2x16x128x128, .f32⟩
  | 59 => ⟨S2x16x128x128, .f32⟩
  | 60 => ⟨S2x16x128, .f32⟩
  | 61 => ⟨S1x2x16x128, .f32⟩
  | 62 => ⟨S_, .i32⟩
  | 63 => ⟨S_, .i32⟩
  | 64 => ⟨S_, .i32⟩
  | 65 => ⟨S8256x2x16x128, .f32⟩
  | 66 => ⟨S_, .i32⟩
  | 67 => ⟨S_, .i32⟩
  | 68 => ⟨S2x8256x16x128, .f32⟩
  | 69 => ⟨S2x8256x16x1x128, .f32⟩
  | 70 => ⟨S2x8256x16x1x128, .f32⟩
  | 71 => ⟨S_, .f32⟩
  | 72 => ⟨S2x8256x16x1, .f32⟩
  | 73 => ⟨S2x8256x16x1x1, .f32⟩
  | 74 => ⟨S_, .f32⟩
  | 75 => ⟨S2x8256x16x1x1, .f32⟩
  | 76 => ⟨S2x8256x16x1x1, .f32⟩
  | 77 => ⟨S_, .f32⟩
  | 78 => ⟨S2x8256x16x1x1, .f32⟩
  | 79 => ⟨S2x8256x16x1x1, .f32⟩
  | 80 => ⟨S2x8256x16x1x1, .f32⟩
  | 81 => ⟨S2x8256x16x1x128, .f32⟩
  | 82 => ⟨S2x8256x16x1x128, .f32⟩
  | 83 => ⟨S2x8256x16x128, .f32⟩
  | 84 => ⟨S128, .f32⟩
  | 85 => ⟨S1x1x1x128, .f32⟩
  | 86 => ⟨S2x8256x16x128, .f32⟩
  | 87 => ⟨S2x8256x16x128, .f32⟩
  | 88 => ⟨S2x8256x2048, .f32⟩
  | 89 => ⟨S2x8256x2048, .f32⟩
  | 90 => ⟨S2x8256x2048, .f32⟩
  | 91 => ⟨S_, .f32⟩
  | 92 => ⟨S2x8256x2048, .f32⟩
  | 93 => ⟨S2x8256x2048, .f32⟩
  | 94 => ⟨S_, .f32⟩
  | 95 => ⟨S2x8256x2048, .f32⟩
  | 96 => ⟨S2x8256x2048, .f32⟩
  | 97 => ⟨S2x8256x2048, .f32⟩
  | 98 => ⟨S2x8256x2048, .f32⟩
  | 99 => ⟨S2x8192x2048, .f32⟩
  | 100 => ⟨S2x8192x2048, .bf16⟩
  | _ => ⟨S2x8256x11264, .bf16⟩

abbrev hbmTy (i : Nat) : BufTy := match i / 128 with
  | 0 => hbmTy0_0 i
  | 1 => hbmTy0_1 i
  | _ => ⟨S2x8256x11264, .bf16⟩

abbrev bufTy : (tb : Table) → Fin (tcTables nBuf tb) → BufTy
  | .hbm, ⟨i, _⟩ => hbmTy i
  | _, _ => ⟨S2x8256x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_1 : Ref sig .tc := ⟨.hbm, 66, rfl⟩
abbrev main_v48 : Ref sig .tc := ⟨.hbm, 67, rfl⟩
abbrev main_v49 : Ref sig .tc := ⟨.hbm, 68, rfl⟩
abbrev main_cst_2 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_3 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_4 : Ref sig .tc := ⟨.hbm, 82, rfl⟩
abbrev main_v61 : Ref sig .tc := ⟨.hbm, 83, rfl⟩
abbrev main_v62 : Ref sig .tc := ⟨.hbm, 84, rfl⟩
abbrev main_cst_5 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_6 : Ref sig .tc := ⟨.hbm, 96, rfl⟩
abbrev main_v73 : Ref sig .tc := ⟨.hbm, 97, rfl⟩
abbrev main_v74 : Ref sig .tc := ⟨.hbm, 98, rfl⟩
abbrev main_cst_7 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_call2_cst : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_8 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_9 : Ref sig .tc := ⟨.hbm, 137, rfl⟩
abbrev main_v98 : Ref sig .tc := ⟨.hbm, 138, rfl⟩
abbrev main_c_10 : Ref sig .tc := ⟨.hbm, 139, rfl⟩
abbrev main_v99_0 : Ref sig .tc := ⟨.hbm, 140, rfl⟩
abbrev main_v99_1 : Ref sig .tc := ⟨.hbm, 141, rfl⟩
abbrev main_v99_2 : Ref sig .tc := ⟨.hbm, 142, rfl⟩
abbrev main_v99_3 : Ref sig .tc := ⟨.hbm, 143, rfl⟩
abbrev main_v99_4 : Ref sig .tc := ⟨.hbm, 144, rfl⟩
abbrev main_v99_5 : Ref sig .tc := ⟨.hbm, 145, rfl⟩
abbrev main_v99_6 : Ref sig .tc := ⟨.hbm, 146, rfl⟩
abbrev main_v99_7 : Ref sig .tc := ⟨.hbm, 147, rfl⟩
abbrev main_while0c_c_21 : Ref sig .tc := ⟨.hbm, 148, rfl⟩
abbrev main_while0c_v122 : Ref sig .tc := ⟨.hbm, 149, rfl⟩
abbrev main_while0b_call3_c : Ref sig .tc := ⟨.hbm, 150, rfl⟩
abbrev main_while0b_call3_c_0 : Ref sig .tc := ⟨.hbm, 151, rfl⟩
abbrev main_while0b_call3_c_1 : Ref sig .tc := ⟨.hbm, 152, rfl⟩
abbrev main_while0b_call3_v0 : Ref sig .tc := ⟨.hbm, 153, rfl⟩
abbrev main_while0b_v122 : Ref sig .tc := ⟨.hbm, 154, rfl⟩
abbrev main_while0b_call4_c : Ref sig .tc := ⟨.hbm, 155, rfl⟩
abbrev main_while0b_call4_c_0 : Ref sig .tc := ⟨.hbm, 156, rfl⟩
abbrev main_while0b_call4_c_1 : Ref sig .tc := ⟨.hbm, 157, rfl⟩
abbrev main_while0b_call4_v0 : Ref sig .tc := ⟨.hbm, 158, rfl⟩
abbrev main_while0b_v123 : Ref sig .tc := ⟨.hbm, 159, rfl⟩
abbrev main_while0b_call5_c : Ref sig .tc := ⟨.hbm, 160, rfl⟩
abbrev main_while0b_call5_c_0 : Ref sig .tc := ⟨.hbm, 161, rfl⟩
abbrev main_while0b_call5_c_1 : Ref sig .tc := ⟨.hbm, 162, rfl⟩
abbrev main_while0b_call5_v0 : Ref sig .tc := ⟨.hbm, 163, rfl⟩
abbrev main_while0b_v124 : Ref sig .tc := ⟨.hbm, 164, rfl⟩
abbrev main_while0b_call6_c : Ref sig .tc := ⟨.hbm, 165, rfl⟩
abbrev main_while0b_call6_c_0 : Ref sig .tc := ⟨.hbm, 166, rfl⟩
abbrev main_while0b_call6_v0 : Ref sig .tc := ⟨.hbm, 167, rfl⟩
abbrev main_while0b_v125 : Ref sig .tc := ⟨.hbm, 168, rfl⟩
abbrev main_while0b_call7_c : Ref sig .tc := ⟨.hbm, 169, rfl⟩
abbrev main_while0b_call7_c_0 : Ref sig .tc := ⟨.hbm, 170, rfl⟩
abbrev main_while0b_call7_v0 : Ref sig .tc := ⟨.hbm, 171, rfl⟩
abbrev main_while0b_v126 : Ref sig .tc := ⟨.hbm, 172, rfl⟩
abbrev main_while0b_v127 : Ref sig .tc := ⟨.hbm, 173, rfl⟩
abbrev main_while0b_v128 : Ref sig .tc := ⟨.hbm, 174, rfl⟩
abbrev main_while0b_v129 : Ref sig .tc := ⟨.hbm, 175, rfl⟩
abbrev main_while0b_v130 : Ref sig .tc := ⟨.hbm, 176, rfl⟩
abbrev main_while0b_v131 : Ref sig .tc := ⟨.hbm, 177, rfl⟩
abbrev main_while0b_v132 : Ref sig .tc := ⟨.hbm, 178, rfl⟩
abbrev main_while0b_v133 : Ref sig .tc := ⟨.hbm, 179, rfl⟩
abbrev main_while0b_v134 : Ref sig .tc := ⟨.hbm, 180, rfl⟩
abbrev main_while0b_v135 : Ref sig .tc := ⟨.hbm, 181, rfl⟩
abbrev main_while0b_v136 : Ref sig .tc := ⟨.hbm, 182, rfl⟩
abbrev main_while0b_v137 : Ref sig .tc := ⟨.hbm, 183, rfl⟩
abbrev main_while0b_v138 : Ref sig .tc := ⟨.hbm, 184, rfl⟩
abbrev main_while0b_v139 : Ref sig .tc := ⟨.hbm, 185, rfl⟩
abbrev main_while0b_v140 : Ref sig .tc := ⟨.hbm, 186, rfl⟩
abbrev main_while0b_v141 : Ref sig .tc := ⟨.hbm, 187, rfl⟩
abbrev main_while0b_v142 : Ref sig .tc := ⟨.hbm, 188, rfl⟩
abbrev main_while0b_call8_v0 : Ref sig .tc := ⟨.hbm, 189, rfl⟩
abbrev main_while0b_call8_c : Ref sig .tc := ⟨.hbm, 190, rfl⟩
abbrev main_while0b_call8_c_0 : Ref sig .tc := ⟨.hbm, 191, rfl⟩
abbrev main_while0b_call8_c_1 : Ref sig .tc := ⟨.hbm, 192, rfl⟩
abbrev main_while0b_v143 : Ref sig .tc := ⟨.hbm, 193, rfl⟩
abbrev main_while0b_c_21 : Ref sig .tc := ⟨.hbm, 194, rfl⟩
abbrev main_while0b_v144 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_cst_11 : Ref sig .tc := ⟨.hbm, 199, rfl⟩
abbrev main_v103 : Ref sig .tc := ⟨.hbm, 200, rfl⟩
abbrev main_v104 : Ref sig .tc := ⟨.hbm, 201, rfl⟩
abbrev main_cst_12 : Ref sig .tc := ⟨.hbm, 202, rfl⟩
abbrev main_v105 : Ref sig .tc := ⟨.hbm, 203, rfl⟩
abbrev main_v106 : Ref sig .tc := ⟨.hbm, 204, rfl⟩
abbrev main_cst_13 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_call9_v0 : Ref sig .tc := ⟨.hbm, 217, rfl⟩
abbrev main_call9_v1 : Ref sig .tc := ⟨.hbm, 218, rfl⟩
abbrev main_call9_cst : Ref sig .tc := ⟨.hbm, 219, rfl⟩
abbrev main_call9_v2 : Ref sig .tc := ⟨.hbm, 220, rfl⟩
abbrev main_call9_v3 : Ref sig .tc := ⟨.hbm, 221, rfl⟩
abbrev main_call9_cst_0 : Ref sig .tc := ⟨.hbm, 222, rfl⟩
abbrev main_call9_v4 : Ref sig .tc := ⟨.hbm, 223, rfl⟩
abbrev main_call9_v5 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_v121 : Ref sig .tc := ⟨.hbm, 228, rfl⟩

abbrev nD : Nat := 1
abbrev τ : Topo := Topo.v7x

variable {F : FTy → Type} [FloatOps F]

abbrev main_while0_count : Scf.Loop 32 := ⟨0#32, 8256#32, 1#32⟩
-- ==== Proof.WprepRun.lean ====
/- The run of the weight relayout call with both of its outputs named: the windows' blocks, the schedule of
   the second output, the body in its two cases, the proof data and the run from any launch memory, over any
   interpretation of the floats. -/
module

public import proofs.«01_k».proof.Proof.Gen.Wprep.Launch
public import proofs.«01_k».proof.Proof.Gen.Wprep.Skeleton
public import Idealize.ShloMosaic.Lib.Pipeline.FrameBody
public import Idealize.ShloMosaic.Lib.Pipeline.Value
public import Idealize.ShloMosaic.Lib.VecWindow
public import Idealize.ShloMosaic.Lib.Tactic
public import Idealize.ShloMosaic.Lib.WordCmp

@[expose] public section

set_option maxRecDepth 16384

noncomputable section

namespace Cert.Wprep.Hand

open Cert.Wprep Cert.Wprep.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's set-up -/

/-- What a buffer of core `c` holds when the call is entered. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

/-- The host operations and then the call. -/
theorem main_split (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ops_fresh main_chain

/-- The argument is as launched when the call is entered. -/
theorem V_arg (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (by decide)))

/-- The table of source columns as the call finds it. -/
def srcs : pre0.Contents (Elt F) := fun j => V m (0 : Dev nD) (pre0.ref j)

theorem V_srcs (c : Dev nD) (j : Fin 1) : V m c (pre0.ref j) = srcs m j := by
  obtain rfl : c = 0 := Subsingleton.elim _ _; rfl

/-- The table holds the constant the program carries. -/
theorem srcs_zero : srcs m 0 = fun i => lit0 (S26.rowMajor i) := rfl

/-- The column the table names for a grid point. -/
abbrev srcAt (i : grid0.Coords) : ℕ := (lit0 ⟨(i 0).val, (i 0).isLt⟩).toNat

/-- Every named column is a multiple of eight and has its 512 columns inside the array. -/
theorem lit_facts : ∀ j : Fin 26, (8 : Int) ∣ (lit0 j).toInt ∧ (lit0 j).toNat + 512 ≤ 13376 := by decide +kernel

theorem word_coord (i : grid0.Coords) : (Scalar.indexCast (BitVec.ofNat 32 (i 0).val)).toNat = (i 0).val := by
  have h : ∀ k : Fin 26, (Scalar.indexCast (BitVec.ofNat 32 k.val)).toNat = k.val := by decide +kernel
  exact h ⟨(i 0).val, (i 0).isLt⟩

theorem mult_eq (i : grid0.Coords) : k0_mult1 (F := F) (srcs m) i = lit0 ⟨(i 0).val, (i 0).isLt⟩ := by
  unfold k0_mult1
  dsimp only
  rw [word_coord]
  have h : (i 0).val < 26 := (i 0).isLt
  unfold Pipeline.Prefetch.Contents.atD
  refine (dif_pos (Fin.forall_fin_one.mpr h)).trans ?_
  show lit0 (S26.rowMajor _) = _
  exact congrArg lit0 (Fin.ext (Shape.rowMajor_val_one _))

theorem origin_eq (i : grid0.Coords) : cc0_transform_0 (F := F) k0_off1_inb numel1_S1 (srcs m) i = ![srcAt i, 0] := by
  unfold cc0_transform_0
  dsimp only
  funext a
  match a with
  | ⟨0, _⟩ =>
    show (lit0 (S26.rowMajor _)).toNat = _
    refine congrArg (fun j => (lit0 j).toNat) (Fin.ext ((Shape.rowMajor_val_one _).trans ?_))
    exact word_coord i
  | ⟨1, _⟩ => rfl

/-- The table's side condition holds of the program's constant. -/
theorem srcs_ok : ok0 (F := F) (srcs m) := by
  refine ⟨fun i => ?_, fun i => ⟨fun a => ?_, .inl rfl⟩⟩
  · rw [mult_eq]; exact (lit_facts _).1
  · rw [origin_eq]
    match a with
    | ⟨0, _⟩ => exact (lit_facts _).2
    | ⟨1, _⟩ => exact Nat.le_refl _

/-- The table as admissible contents, and the pipeline at them. -/
abbrev adm : (pcfg0 (F := F)).Adm := ⟨srcs m, srcs_ok m⟩
abbrev cfgM : Pipeline.Cfg sig Λ₀ := cfg0 (adm m)

/-- The table's whole buffer, half of which the body holds. -/
abbrev tabM : Memref sig .tc .smem S26 .i32 := Memref.whole main_c
abbrev tabW : tabM.IsWhole := Memref.isWhole_whole _
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

theorem tab_half (c : Dev nD) : (Pipeline.ΦT pre0 (srcs m) c : sProp 𝕄) = iprop(tabPt c tabM (srcs m 0)) := by
  unfold Pipeline.ΦT Pipeline.prefHeld
  rw [show (Finset.univ : Finset (Fin 1)) = {(0 : Fin 1)} from by decide, bigSep_singleton]
  rfl

/-- A window's block at a grid point, read off its array. -/
def blk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input's staging buffer holds its block at every point, for proof data that leave it there. -/
theorem found_in0 (c : Dev nD) (dat : Dat τ (Elt F) Unit ℕ (UR sig nD τ) ℕ (cfgM m) c)
    (hA : dat.A 0 = V m c (Pipeline.arrRef spec0 0)) (hafter : ∀ t, dat.after 0 t = blk m c 0 t) (t : Fin (cfgM m).N) (d) :
    dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_in1 (c : Dev nD) (dat : Dat τ (Elt F) Unit ℕ (UR sig nD τ) ℕ (cfgM m) c)
    (hA : dat.A 1 = V m c (Pipeline.arrRef spec0 1)) (hafter : ∀ t, dat.after 1 t = blk m c 1 t) (t : Fin (cfgM m).N) (d) :
    dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_in2 (c : Dev nD) (dat : Dat τ (Elt F) Unit ℕ (UR sig nD τ) ℕ (cfgM m) c)
    (hA : dat.A 2 = V m c (Pipeline.arrRef spec0 2)) (hafter : ∀ t, dat.after 2 t = blk m c 2 t) (t : Fin (cfgM m).N) (d) :
    dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The schedule -/

/-- The body writes the second output at the first point alone. -/
abbrev first (i : grid0.Coords) : Prop := k0_cond1 i = 1#1

theorem first_iff : ∀ t : Fin grid0.N, first (grid0.coords t) ↔ t.val = 0 := by decide +kernel

theorem wrote_all : ∀ t : Fin (cfgM m).N, ((cfgM m).win 3).flush t = true :=
  (by decide +kernel : ∀ t : Fin grid0.N, Pipeline.Window.flushOf grid0 true cc0_transform_3 t = true)

theorem wrote_small : ∀ t : Fin (cfgM m).N, ((cfgM m).win 4).flush t = true ↔ t.val = 25 :=
  (by decide +kernel : ∀ t : Fin grid0.N, Pipeline.Window.flushOf grid0 true cc0_transform_4 t = true ↔ t.val = 25)

/-! ## The body in its two cases -/

set_option maxHeartbeats 1000000 in
/-- At the first point the body leaves both outputs at their payloads. -/
theorem body_first (c : Dev nD) (i : grid0.Coords) (arg2 : Memref sig .tc .vmem S512x1024 .f32) (harg2 : arg2.IsWhole) (arg3 : Memref sig .tc .vmem S32x1024 .f32) (harg3 : arg3.IsWhole) (arg4 : Memref sig .tc .vmem S32x1024 .f32) (harg4 : arg4.IsWhole) (arg5 : Memref sig .tc .vmem S1024x512 .bf16) (harg5 : arg5.IsWhole) (arg6 : Memref sig .tc .vmem S1024x128 .bf16) (harg6 : arg6.IsWhole) (hc0 : first i)
    (x0 : Vec F S512x1024 .f32) (x1 : Vec F S32x1024 .f32) (x2 : Vec F S32x1024 .f32) (xt0 : TabBuf (F := F) c tabM)
    (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ tabPt c tabM xt0
            ∗ (iprop(owns (c : Thread nD τ) arg2 fullShare x0 ∗ owns (c : Thread nD τ) arg3 fullShare x1 ∗ owns (c : Thread nD τ) arg4 fullShare x2 ∗ owns (c : Thread nD τ) arg5 fullShare (k0_pay1 x0) ∗ owns (c : Thread nD τ) arg6 fullShare (k0_pay2 x1 x2) ∗ tabPt c tabM xt0) -∗ K ⟨⟩))
          ⊢ wp frame (wpE (defs₀ (F := F)) Variants.none c none) E (cc0_inproj_weight_relayout i tabM tabW arg2 harg2 arg3 harg3 arg4 harg4 arg5 harg5 arg6 harg6) K := by
  simp only [cc0_inproj_weight_relayout_eq_skeleton]; unfold cc0_inproj_weight_relayout_skel
  unfold owns
  iintro ⟨⟨%f0, %hf0, H0⟩, ⟨%f1, %hf1, H1⟩, ⟨%f2, %hf2, H2⟩, ⟨%d3, %f3, -, H3⟩, ⟨%d4, %f4, -, H4⟩, HT0, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    exact (View.read_writes_full _ _ _ _ _).trans (congrArg k0_pay1 ((View.readAt_full _ _ _).trans hf0))
  isplitl [H4]
  · iexists _; isplitr; swap; · iexact H4
    ipureintro
    exact (View.read_writes_full _ _ _ _ _).trans (congrArg₂ k0_pay2 ((View.readAt_full _ _ _).trans hf1) ((View.readAt_full _ _ _).trans hf2))
  iexact HT0

set_option maxHeartbeats 1000000 in
/-- At a later point it leaves the first output at its payload and the second as it was. -/
theorem body_later (c : Dev nD) (i : grid0.Coords) (arg2 : Memref sig .tc .vmem S512x1024 .f32) (harg2 : arg2.IsWhole) (arg3 : Memref sig .tc .vmem S32x1024 .f32) (harg3 : arg3.IsWhole) (arg4 : Memref sig .tc .vmem S32x1024 .f32) (harg4 : arg4.IsWhole) (arg5 : Memref sig .tc .vmem S1024x512 .bf16) (harg5 : arg5.IsWhole) (arg6 : Memref sig .tc .vmem S1024x128 .bf16) (harg6 : arg6.IsWhole) (hc0 : ¬first i)
    (x0 : Vec F S512x1024 .f32) (x1 : Vec F S32x1024 .f32) (x2 : Vec F S32x1024 .f32) (x4 : Vec F S1024x128 .bf16) (xt0 : TabBuf (F := F) c tabM)
    (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ tabPt c tabM xt0
            ∗ (iprop(owns (c : Thread nD τ) arg2 fullShare x0 ∗ owns (c : Thread nD τ) arg3 fullShare x1 ∗ owns (c : Thread nD τ) arg4 fullShare x2 ∗ owns (c : Thread nD τ) arg5 fullShare (k0_pay1 x0) ∗ owns (c : Thread nD τ) arg6 fullShare x4 ∗ tabPt c tabM xt0) -∗ K ⟨⟩))
          ⊢ wp frame (wpE (defs₀ (F := F)) Variants.none c none) E (cc0_inproj_weight_relayout i tabM tabW arg2 harg2 arg3 harg3 arg4 harg4 arg5 harg5 arg6 harg6) K := by
  simp only [cc0_inproj_weight_relayout_eq_skeleton]; unfold cc0_inproj_weight_relayout_skel
  unfold owns
  iintro ⟨⟨%f0, %hf0, H0⟩, ⟨%f1, %hf1, H1⟩, ⟨%f2, %hf2, H2⟩, ⟨%d3, %f3, -, H3⟩, ⟨%f4, %hf4, H4⟩, HT0, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    exact (View.read_writes_full _ _ _ _ _).trans (congrArg k0_pay1 ((View.readAt_full _ _ _).trans hf0))
  isplitl [H4]
  · iexists _; isplitr; · ipureintro; exact hf4
    iexact H4
  iexact HT0

/-! ## The proof data -/

/-- The first grid point. -/
def firstPt : Fin (cfgM m).N := (⟨0, by decide⟩ : Fin grid0.N)

/-- What the body leaves in the second output's buffer, at the first point and ever after. -/
def smallOut (c : Dev nD) : Vec F S1024x128 .bf16 := k0_pay2 (blk m c 1 (firstPt m)) (blk m c 2 (firstPt m))

/-- What a grid point leaves in the first output's buffer. -/
def allOut (c : Dev nD) (t : Fin (cfgM m).N) : Vec F S1024x512 .bf16 := k0_pay1 (blk m c 0 t)

def data (_ : Fin 1) (c : Dev nD) : Dat τ (Elt F) Unit ℕ (UR sig nD τ) ℕ (cfgM m) c where
  A w := V m c (Pipeline.arrRef spec0 w)
  after w t := match w with
    | ⟨0, _⟩ => blk m c 0 t
    | ⟨1, _⟩ => blk m c 1 t
    | ⟨2, _⟩ => blk m c 2 t
    | ⟨3, _⟩ => allOut m c t
    | ⟨4, _⟩ => smallOut m c
  Φ _ := iprop(Pipeline.ΦA spec0 c ∗ Pipeline.ΦT pre0 (srcs m) c)
  q w := Pipeline.shareOf spec0 w
  owed _ := 0

theorem data_A (c : Dev nD) (w : Fin (cfgM m).W) : (data m 0 c).A w = V m c (Pipeline.arrRef spec0 w) := by
  dsimp only [data]

theorem after_0 (c : Dev nD) (t : Fin (cfgM m).N) : (data m 0 c).after 0 t = blk m c 0 t := by dsimp only [data]; try rfl
theorem after_1 (c : Dev nD) (t : Fin (cfgM m).N) : (data m 0 c).after 1 t = blk m c 1 t := by dsimp only [data]; try rfl
theorem after_2 (c : Dev nD) (t : Fin (cfgM m).N) : (data m 0 c).after 2 t = blk m c 2 t := by dsimp only [data]; try rfl
theorem after_3 (c : Dev nD) (t : Fin (cfgM m).N) : (data m 0 c).after 3 t = allOut m c t := by dsimp only [data]; try rfl
theorem after_4 (c : Dev nD) (t : Fin (cfgM m).N) : (data m 0 c).after 4 t = smallOut m c := by dsimp only [data]; try rfl

theorem before_0 (c : Dev nD) (t : Fin (cfgM m).N) (d) : (data m 0 c).before 0 t d = blk m c 0 t :=
  found_in0 m c (data m 0 c) (data_A m c 0) (after_0 m c) t d
theorem before_1 (c : Dev nD) (t : Fin (cfgM m).N) (d) : (data m 0 c).before 1 t d = blk m c 1 t :=
  found_in1 m c (data m 0 c) (data_A m c 1) (after_1 m c) t d
theorem before_2 (c : Dev nD) (t : Fin (cfgM m).N) (d) : (data m 0 c).before 2 t d = blk m c 2 t :=
  found_in2 m c (data m 0 c) (data_A m c 2) (after_2 m c) t d

theorem idle_later (t : Fin (cfgM m).N) (ht : t.val ≠ 0) : (cfgM m).idle 4 ((cfgM m).grid.coords t) = true := by
  have h : ¬ first (grid0.coords t) := fun h => ht ((first_iff t).mp h)
  show (!(k0_cond1 (grid0.coords t) == 1#1)) = true
  simpa using h

theorem live_first (t : Fin (cfgM m).N) (ht : t.val = 0) : (cfgM m).idle 4 ((cfgM m).grid.coords t) = false := by
  have h : first (grid0.coords t) := (first_iff t).mpr ht
  show (!(k0_cond1 (grid0.coords t) == 1#1)) = false
  simpa using h

/-- After the first point the second output's buffer holds what that point stored. -/
theorem before_4 (c : Dev nD) (d) : ∀ (n : ℕ) (t : Fin (cfgM m).N), t.val = n + 1 → (data m 0 c).before 4 t d = smallOut m c := by
  intro n
  induction n with
  | zero =>
    intro t ht
    rw [Dat.before_of_pos _ 4 t (by omega) rfl]
    have hf : ((cfgM m).win 4).flush ⟨t.val - 1, Nat.lt_of_le_of_lt (Nat.sub_le _ _) t.isLt⟩ = false := by
      rw [Bool.eq_false_iff]; intro h; have := (wrote_small m _).mp h; simp only [] at this; omega
    rw [hf, if_neg Bool.false_ne_true]
    unfold Dat.left
    rw [live_first m _ (by show t.val - 1 = 0; omega)]
    unfold Dat.kept
    rw [after_4]; try rfl
  | succ n ih =>
    intro t ht
    rw [Dat.before_of_pos _ 4 t (by omega) rfl]
    have hN : t.val < 26 := t.isLt
    have hf : ((cfgM m).win 4).flush ⟨t.val - 1, Nat.lt_of_le_of_lt (Nat.sub_le _ _) t.isLt⟩ = false := by
      rw [Bool.eq_false_iff]; intro h; have := (wrote_small m _).mp h; simp only [] at this; omega
    rw [hf, if_neg Bool.false_ne_true]
    unfold Dat.left
    rw [idle_later m _ (by show t.val - 1 ≠ 0; omega)]
    exact ih _ (by show t.val - 1 = n + 1; omega)

/-! ## The body obligation -/

abbrev stg0 (t : Fin (cfgM m).N) : Memref sig .tc .vmem S512x1024 .f32 := spec0_0.stage ((cfgM m).slots t 0)
abbrev stg1 (t : Fin (cfgM m).N) : Memref sig .tc .vmem S32x1024 .f32 := spec0_1.stage ((cfgM m).slots t 1)
abbrev stg2 (t : Fin (cfgM m).N) : Memref sig .tc .vmem S32x1024 .f32 := spec0_2.stage ((cfgM m).slots t 2)
abbrev stg3 (t : Fin (cfgM m).N) : Memref sig .tc .vmem S1024x512 .bf16 := spec0_3.stage ((cfgM m).slots t 3)
abbrev stg4 (t : Fin (cfgM m).N) : Memref sig .tc .vmem S1024x128 .bf16 := spec0_4.stage ((cfgM m).slots t 4)

/-- The body at a grid point, on the point's staging buffers. -/
abbrev bodyAt (t : Fin (cfgM m).N) : Prog (TpuEff nD τ sig (Elt F) Λ₀ .tc) PUnit :=
  cc0_inproj_weight_relayout (grid0.coords t) tabM tabW (stg0 m t) (hstage0_0 (((cfgM m).slots t 0).cast nbuf0_0)) (stg1 m t) (hstage0_1 (((cfgM m).slots t 1).cast nbuf0_1)) (stg2 m t) (hstage0_2 (((cfgM m).slots t 2).cast nbuf0_2)) (stg3 m t) (hstage0_3 (((cfgM m).slots t 3).cast nbuf0_3)) (stg4 m t) (hstage0_4 (((cfgM m).slots t 4).cast nbuf0_4))

def pre (c : Dev nD) (t : Fin (cfgM m).N) : sProp 𝕄 :=
  iprop((data m 0 c).Φ t.castSucc ∗ (data m 0 c).owesAt () t.castSucc
    ∗ (∃ d, owns (c : Thread nD τ) (stg0 m t) fullShare ((data m 0 c).before 0 t d))
    ∗ (∃ d, owns (c : Thread nD τ) (stg1 m t) fullShare ((data m 0 c).before 1 t d))
    ∗ (∃ d, owns (c : Thread nD τ) (stg2 m t) fullShare ((data m 0 c).before 2 t d))
    ∗ (∃ d, owns (c : Thread nD τ) (stg3 m t) fullShare ((data m 0 c).before 3 t d))
    ∗ (∃ d, owns (c : Thread nD τ) (stg4 m t) fullShare ((data m 0 c).before 4 t d)))

def post (c : Dev nD) (t : Fin (cfgM m).N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t)

theorem leaves_live (c : Dev nD) (w : Fin (cfgM m).W) (t : Fin (cfgM m).N) (h : (cfgM m).idle w ((cfgM m).grid.coords t) = false) :
    (data m 0 c).leavesExact w t = owns (c : Thread nD τ) (((cfgM m).win w).stage ((cfgM m).slots t w)) fullShare ((data m 0 c).after w t) := by
  unfold Dat.leavesExact; rw [h]; try rfl

theorem leaves_0 (c : Dev nD) (t : Fin (cfgM m).N) : (data m 0 c).leavesExact 0 t = owns (c : Thread nD τ) (stg0 m t) fullShare (blk m c 0 t) :=
  (leaves_live m c 0 t rfl).trans (congrArg (owns (c : Thread nD τ) (stg0 m t) fullShare) (after_0 m c t))
theorem leaves_1 (c : Dev nD) (t : Fin (cfgM m).N) : (data m 0 c).leavesExact 1 t = owns (c : Thread nD τ) (stg1 m t) fullShare (blk m c 1 t) :=
  (leaves_live m c 1 t rfl).trans (congrArg (owns (c : Thread nD τ) (stg1 m t) fullShare) (after_1 m c t))
theorem leaves_2 (c : Dev nD) (t : Fin (cfgM m).N) : (data m 0 c).leavesExact 2 t = owns (c : Thread nD τ) (stg2 m t) fullShare (blk m c 2 t) :=
  (leaves_live m c 2 t rfl).trans (congrArg (owns (c : Thread nD τ) (stg2 m t) fullShare) (after_2 m c t))
theorem leaves_3 (c : Dev nD) (t : Fin (cfgM m).N) : (data m 0 c).leavesExact 3 t = owns (c : Thread nD τ) (stg3 m t) fullShare (allOut m c t) :=
  (leaves_live m c 3 t rfl).trans (congrArg (owns (c : Thread nD τ) (stg3 m t) fullShare) (after_3 m c t))

/-- What is left of the second output's buffer: the payload, at every point. -/
theorem leaves_4_first (c : Dev nD) (t : Fin (cfgM m).N) (ht : t.val = 0) :
    (data m 0 c).leavesExact 4 t = owns (c : Thread nD τ) (stg4 m t) fullShare (smallOut m c) :=
  (leaves_live m c 4 t (live_first m t ht)).trans (congrArg (owns (c : Thread nD τ) (stg4 m t) fullShare) (after_4 m c t))

theorem leaves_4_later (c : Dev nD) (t : Fin (cfgM m).N) (ht : t.val ≠ 0) :
    owns (c : Thread nD τ) (stg4 m t) fullShare (smallOut m c) ⊢ ((data m 0 c).leavesExact 4 t : sProp 𝕄) := by
  by_cases hf : ((cfgM m).win 4).flush t = true
  · have e : (data m 0 c).leavesExact 4 t = owns (c : Thread nD τ) (stg4 m t) fullShare ((data m 0 c).after 4 t) := by
      unfold Dat.leavesExact; rw [idle_later m t ht, hf]; try rfl
    rw [e, after_4]
  · rw [Dat.leavesExact_idle _ 4 t (idle_later m t ht) (Bool.eq_false_iff.mpr hf)]
    iintro H
    iexists (fun _ => Classical.arbitrary _)
    rw [before_4 m c _ (t.val - 1) t (by omega)]
    iexact H

set_option maxHeartbeats 1000000 in
theorem body_ok (c : Dev nD) (t : Fin (cfgM m).N) :
    pre m c t ⊢ wp frame (wpE (defs₀ (F := F)) Variants.none c none) Set.univ (bodyAt m t) (fun _ => post m c t) := by
  unfold pre post
  simp only [before_0, before_1, before_2]
  rw [leaves_0 m c t, leaves_1 m c t, leaves_2 m c t, leaves_3 m c t]
  rw [show (data m 0 c).Φ t.succ = (data m 0 c).Φ t.castSucc from rfl,
    show (data m 0 c).owesAt () t.succ = (data m 0 c).owesAt () t.castSucc from rfl,
    show (data m 0 c).Φ t.castSucc = iprop(Pipeline.ΦA spec0 c ∗ Pipeline.ΦT pre0 (srcs m) c) from rfl, tab_half]
  by_cases h0 : t.val = 0
  · rw [leaves_4_first m c t h0]
    iintro ⟨⟨HΦ, HT⟩, Ho, ⟨%d0, H0⟩, ⟨%d1, H1⟩, ⟨%d2, H2⟩, ⟨%d3, H3⟩, ⟨%d4, H4⟩⟩
    iapply (body_first c (grid0.coords t) _ _ _ _ _ _ _ _ _ _ ((first_iff t).mpr h0) (blk m c 0 t) (blk m c 1 t) (blk m c 2 t) (srcs m 0) Set.univ _)
    isplitl [H0]; · iexact H0
    isplitl [H1]; · iexact H1
    isplitl [H2]; · iexact H2
    isplitl [H3]; · iexists _; iexact H3
    isplitl [H4]; · iexists _; iexact H4
    isplitl [HT]; · iexact HT
    iintro ⟨H0, H1, H2, H3, H4, HT⟩
    isplitl [HΦ HT]
    · isplitl [HΦ]
      · iexact HΦ
      iexact HT
    isplitl [Ho]; · iexact Ho
    isplitl [H0]; · iexact H0
    isplitl [H1]; · iexact H1
    isplitl [H2]; · iexact H2
    isplitl [H3]; · iexact H3
    rw [show smallOut m c = k0_pay2 (blk m c 1 t) (blk m c 2 t) from by
      rw [show t = firstPt m from Fin.ext h0]; rfl]
    iexact H4
  · simp only [before_4 m c _ (t.val - 1) t (by omega)]
    iintro ⟨⟨HΦ, HT⟩, Ho, ⟨%d0, H0⟩, ⟨%d1, H1⟩, ⟨%d2, H2⟩, ⟨%d3, H3⟩, ⟨%d4, H4⟩⟩
    iapply (body_later c (grid0.coords t) _ _ _ _ _ _ _ _ _ _ (fun h => h0 ((first_iff t).mp h)) (blk m c 0 t) (blk m c 1 t) (blk m c 2 t) (smallOut m c) (srcs m 0) Set.univ _)
    isplitl [H0]; · iexact H0
    isplitl [H1]; · iexact H1
    isplitl [H2]; · iexact H2
    isplitl [H3]; · iexists _; iexact H3
    isplitl [H4]; · iexact H4
    isplitl [HT]; · iexact HT
    iintro ⟨H0, H1, H2, H3, H4, HT⟩
    isplitl [HΦ HT]
    · isplitl [HΦ]
      · iexact HΦ
      iexact HT
    isplitl [Ho]; · iexact Ho
    isplitl [H0]; · iexact H0
    isplitl [H1]; · iexact H1
    isplitl [H2]; · iexact H2
    isplitl [H3]; · iexact H3
    iapply (leaves_4_later m c t h0)
    iexact H4

theorem defs_row (t : Fin (cfgM m).N) :
    defs₀ (F := F) .tc (cfgM m).body ((cfgM m).bodyArgs t ((cfgM m).slots t)) = bodyAt m t := by
  unfold defs₀; rw [Defs.onTc_tc]

theorem obligation (c : Dev nD) : BodyObligation (data (F := F) m 0 c) (defs₀ (F := F)) Variants.none () Set.univ := fun t => by
  rw [bigSep_W0, bigSep_W0, defs_row m]
  exact triple_restated (body_ok m c t) rfl .rfl fun _ => .rfl

/-! ## The run and the frame -/

set_option backward.isDefEq.respectTransparency.types false in
/-- From any launch memory the call ends with its windows' arrays at what the schedule writes, every other buffer as
    the call found it, and no semaphore counted up. -/
theorem ran : θ_run defs (onTc (τ := τ) (main (F := F))) (s₀ m ρ)
    (fun r => Pipeline.FramePost (Pipeline.pin pcfgs fun _ => adm m) (data m) 0 (V m) r ∧ r.2.sem = fun _ => 0) :=
  Pipeline.θ_run_frameP_shared (Q' := _) pcfgs (fun _ => adm m) (data m) (0 : Fin 1) launch₀0 defs₀ Variants.none m ρ main
    (hbody := fun c => (obligation m c).loose) (hq := fun _ _ _ => rfl) (howed := fun _ _ => rfl)
    (V := V m) (hmain := main_split m Variants.none) (hA := data_A m) (hpf := V_srcs m) (hΦ := fun _ _ => rfl)

/-- The two results of the run, and the argument as launched. -/
theorem results : θ_run defs (onTc (τ := τ) (main (F := F))) (s₀ m ρ) (fun r => ∀ c : Dev nD,
      r.2.mem ((c : Thread nD τ).loc main_v2_0) = (data m 0 c).arrAt 3 (cfgM m).N
      ∧ r.2.mem ((c : Thread nD τ).loc main_v2_1) = (data m 0 c).arrAt 4 (cfgM m).N) :=
  (θ_run defs _ _).mono (fun _ h c => ⟨(h.1 c).1 3, (h.1 c).1 4⟩) (ran m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h =>
    ⟨fun c => ((h.1 c).2 main_arg0 (by decide : main_arg0 ∈ Pipeline.restRefs sig spec0)).trans (V_arg m c), h.2⟩) (ran m ρ)

end Cert.Wprep.Hand

end
-- ==== Proof.WprepValue.lean ====
/- The two results of the weight relayout call, as the reference's terms of the argument: over any interpretation of
   the floats, so that the same lemmas serve the words and the extended reals. -/
module

public import proofs.«01_k».proof.Proof.WprepRun
public import proofs.«01_k».proof.Proof.Gen.WprepRef.Run
public import proofs.«01_k».proof.Proof.Gen.WprepRef.Read
public import Idealize.ShloMosaic.Lib.Pipeline.ValueKit
public import Idealize.ShloMosaic.Lib.Pointwise

@[expose] public section

set_option maxRecDepth 16384

noncomputable section

namespace Cert.Wprep.Hand

open Cert.Wprep Cert.Wprep.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ)

/-- The transposed argument, as the call reads it. -/
theorem V_rows (c : Dev nD) (r : Fin 13376) (k : Fin 1024) :
    (V m c main_v1 : (⟨S13376x1024, .f32⟩ : BufTy).Contents (Elt F)) (ix2 r k) = (m ((c : Thread nD τ).loc main_arg0) : (⟨S1x1024x13376, .f32⟩ : BufTy).Contents (Elt F)) (ix3 0 k r) := by
  entry_read
  pointwise

theorem idx3 : ∀ t : Fin (cfgM m).N, ((cfgM m).win 3).index t = ![0, t.val] :=
  (by decide +kernel : ∀ t : Fin grid0.N, cc0_transform_3 (grid0.coords t) = ![0, t.val])

/-- The column of the argument that the first result's column `q` is. -/
def colOf (q : ℕ) : ℕ :=
  if q < 2048 then 11328 + q else if q < 4096 then q - 2048 else if q < 6144 then 9280 + (q - 4096)
  else if q < 10240 then 5152 + (q - 6144) else 2048 + (q - 10240)

theorem lit_col : ∀ t : Fin 26, (lit0 t).toNat = colOf (512 * t.val) := by decide +kernel

theorem lit_bound (t : Fin 26) (n : ℕ) (h : n < 512) : (lit0 t).toNat + n < 13376 := by
  have := (lit_facts t).2
  omega

theorem point0 : ∀ t : Fin grid0.N, (grid0.coords t 0).val = t.val := by decide +kernel

/-- The 512 columns of grid point `t` read at an element. -/
theorem blk0_apply (c : Dev nD) (t : Fin (cfgM m).N) (y : S512x1024.Idx) :
   (blk m c 0 t : Vec F S512x1024 .f32) y = (m ((c : Thread nD τ).loc main_arg0) : (⟨S1x1024x13376, .f32⟩ : BufTy).Contents (Elt F)) (ix3 0 (y 1) ⟨(lit0 t).toNat + (y 0).val, lit_bound t _ (y 0).isLt⟩) := by
  refine Eq.trans ?_ (V_rows m c _ _)
  show V m c main_v1 ((((cfgM m).win 0).rect t).emb y) = _
  congr 1
  funext a
  apply Fin.ext
  refine (Window.rect_emb_val_off ((cfgM m).win 0) t y a).trans ?_
  have e : ((cfgM m).win 0).index t = ![(lit0 t).toNat, 0] := by
    refine (origin_eq m (grid0.coords t)).trans ?_
    unfold srcAt
    rw [show (⟨(grid0.coords t 0).val, (grid0.coords t 0).isLt⟩ : Fin 26) = t from Fin.ext (point0 t)]
  rw [e]
  match a with
  | ⟨0, _⟩ => rfl
  | ⟨1, _⟩ => exact Nat.zero_add _

/-- The 32 columns at 5120 read at an element. -/
theorem blk1_apply (c : Dev nD) (t : Fin (cfgM m).N) (y : S32x1024.Idx) :
   (blk m c 1 t : Vec F S32x1024 .f32) y = (m ((c : Thread nD τ).loc main_arg0) : (⟨S1x1024x13376, .f32⟩ : BufTy).Contents (Elt F)) (ix3 0 (y 1) ⟨5120 + (y 0).val, by have h : (y 0).val < 32 := (y 0).isLt; omega⟩) := by
  refine Eq.trans ?_ (V_rows m c _ _)
  show V m c main_v1 ((((cfgM m).win 1).rect t).emb y) = _
  congr 1
  funext a
  apply Fin.ext
  refine (Window.rect_emb_val_off ((cfgM m).win 1) t y a).trans ?_
  match a with
  | ⟨0, _⟩ => rfl
  | ⟨1, _⟩ => exact Nat.zero_add _

/-- The 32 columns at 9248 read at an element. -/
theorem blk2_apply (c : Dev nD) (t : Fin (cfgM m).N) (y : S32x1024.Idx) :
   (blk m c 2 t : Vec F S32x1024 .f32) y = (m ((c : Thread nD τ).loc main_arg0) : (⟨S1x1024x13376, .f32⟩ : BufTy).Contents (Elt F)) (ix3 0 (y 1) ⟨9248 + (y 0).val, by have h : (y 0).val < 32 := (y 0).isLt; omega⟩) := by
  refine Eq.trans ?_ (V_rows m c _ _)
  show V m c main_v1 ((((cfgM m).win 2).rect t).emb y) = _
  congr 1
  funext a
  apply Fin.ext
  refine (Window.rect_emb_val_off ((cfgM m).win 2) t y a).trans ?_
  match a with
  | ⟨0, _⟩ => rfl
  | ⟨1, _⟩ => exact Nat.zero_add _

/-- The reference's first result read at an element. -/
theorem ref_all (x : (⟨S1x1024x13376, .f32⟩ : BufTy).Contents (Elt F)) (r : Fin 1024) (q : Fin 13312) (h : colOf q.val < 13376) :
    Cert.WprepRef.Read.val_main_v12 (F := F) x (ix2 r q) = FloatOps.truncf .bf16 (by decide) (x (ix3 0 r ⟨colOf q.val, h⟩)) := by
  pointwise [Cert.WprepRef.Read.val_main_v12, Cert.WprepRef.Read.val_main_v9, Cert.WprepRef.Read.val_main_v8, Cert.WprepRef.Read.val_main_v7, Cert.WprepRef.Read.val_main_v4, Cert.WprepRef.Read.val_main_v2, Cert.WprepRef.Read.val_main_v1, Cert.WprepRef.Read.val_main_v0]
  refine congrArg _ ?_
  have k : ∀ (a : ℕ) (ha : a < 13376), a = colOf q.val → x (ix3 0 r ⟨a, ha⟩) = x (ix3 0 r ⟨colOf q.val, h⟩) := by
    intro a ha e; subst e; rfl
  by_cases h1 : q.val < 2048
  · rw [dif_pos h1]; exact k _ _ (by unfold colOf; split_ifs <;> omega)
  by_cases h2 : q.val - 2048 < 2048
  · rw [dif_neg h1, dif_pos h2]; exact k _ _ (by unfold colOf; split_ifs <;> omega)
  by_cases h3 : q.val - 2048 - 2048 < 2048
  · rw [dif_neg h1, dif_neg h2, dif_pos h3]; exact k _ _ (by unfold colOf; split_ifs <;> omega)
  by_cases h4 : q.val - 2048 - 2048 - 2048 < 4096
  · rw [dif_neg h1, dif_neg h2, dif_neg h3, dif_pos h4]; exact k _ _ (by unfold colOf; split_ifs <;> omega)
  · rw [dif_neg h1, dif_neg h2, dif_neg h3, dif_neg h4]; exact k _ _ (by unfold colOf; split_ifs <;> omega)

/-- The reference's second result read at an element. -/
theorem ref_small (x : (⟨S1x1024x13376, .f32⟩ : BufTy).Contents (Elt F)) (r : Fin 1024) (q : Fin 128)  :
    Cert.WprepRef.Read.val_main_v13 (F := F) x (ix2 r q) = FloatOps.truncf .bf16 (by decide) (if h : q.val < 32 then x (ix3 0 r ⟨5120 + q.val, by omega⟩)
       else if h : q.val < 64 then x (ix3 0 r ⟨9248 + (q.val - 32), by omega⟩) else FloatOps.ofBits .f32 0) := by
  pointwise [Cert.WprepRef.Read.val_main_v13, Cert.WprepRef.Read.val_main_v11, Cert.WprepRef.Read.val_main_v3, Cert.WprepRef.Read.val_main_v5, Cert.WprepRef.Read.val_main_v6, Cert.WprepRef.Read.val_main_v10, Cert.WprepRef.Read.val_main_cst, Cert.WprepRef.Read.val_main_v0]
  refine congrArg _ ?_
  by_cases h1 : q.val < 32
  · rw [dif_pos h1, dif_pos h1]
  by_cases h2 : q.val - 32 < 16
  · rw [dif_neg h1, dif_pos h2, dif_neg h1, dif_pos (by omega)]
  by_cases h3 : q.val - 32 - 16 < 16
  · rw [dif_neg h1, dif_neg h2, dif_pos h3, dif_neg h1, dif_pos (by omega)]
    have e : 9264 + (q.val - 32 - 16) = 9248 + (q.val - 32) := by omega
    simp only [e]
  · rw [dif_neg h1, dif_neg h2, dif_neg h3, dif_neg h1, dif_neg (by omega)]; rfl

/-- The body's second store read at an element. -/
theorem ker_small (u v : Vec F S32x1024 .f32) (r : Fin 1024) (q : Fin 128)  :
    k0_pay2 u v (ix2 r q) = FloatOps.truncf .bf16 (by decide) (if h : q.val < 32 then u (ix2 ⟨q.val, h⟩ r)
       else if h2 : q.val < 64 then v (ix2 ⟨q.val - 32, Nat.lt_of_lt_of_le (show q.val - 32 < 32 by omega) (Nat.le_refl _)⟩ r) else FloatOps.ofBits .f32 0) := by
  pointwise [k0_pay2]
  refine congrArg _ ?_
  by_cases h1 : q.val < 32
  · rw [dif_pos h1, dif_pos h1]
  by_cases h2 : q.val - 32 < 32
  · rw [dif_neg h1, dif_pos h2, dif_neg h1, dif_pos (by omega)]
  · rw [dif_neg h1, dif_neg h2, dif_neg h1, dif_neg (by omega)]; rfl

theorem ker_all (u : Vec F S512x1024 .f32) (y : S1024x512.Idx)  :
    k0_pay1 u y = FloatOps.truncf .bf16 (by decide) (u (ix2 (y 1) (y 0))) := by
  pointwise [k0_pay1]

theorem colOf_point (t : Fin 26) (n : ℕ) (h : n < 512) : (lit0 t).toNat + n = colOf (512 * t.val + n) := by
  have e := lit_col t
  unfold colOf at e ⊢
  split_ifs at e ⊢ <;> omega

theorem emb3 (t : Fin (cfgM m).N) (y : S1024x512.Idx) (h : 512 * t.val + (y 1).val < 13312) :
    ((((cfgM m).win 3).blk t).view.emb y : S1024x13312.Idx) = ix2 (y 0) ⟨512 * t.val + (y 1).val, h⟩ := by
  funext a
  apply Fin.ext
  refine (Window.rect_emb_val ((cfgM m).win 3) t y a).trans ?_
  rw [idx3]
  match a with
  | ⟨0, _⟩ => exact (congrArg (· + (y 0).val) (Nat.zero_mul _)).trans (Nat.zero_add _)
  | ⟨1, _⟩ => exact congrArg (· + (y 1).val) (Nat.mul_comm _ _)

theorem all_point (c : Dev nD) (t : Fin (cfgM m).N) (y : S1024x512.Idx) :
    k0_pay1 (blk m c 0 t) y = Cert.WprepRef.Read.val_main_v12 (F := F) (m ((c : Thread nD τ).loc main_arg0)) ((((cfgM m).win 3).blk t).view.emb y) := by
  have h1 : (y 1).val < 512 := (y 1).isLt
  have ht : t.val < 26 := t.isLt
  have e := colOf_point t _ h1
  have hb := lit_bound t _ h1
  refine Eq.trans ?_ ((congrArg (Cert.WprepRef.Read.val_main_v12 (F := F) (m ((c : Thread nD τ).loc main_arg0))) (emb3 m t y (by omega))).trans (ref_all _ _ _ (e ▸ hb))).symm
  refine (ker_all _ y).trans ?_
  refine congrArg _ ((blk0_apply m c t _).trans ?_)
  refine congrArg _ ?_
  congr 1
  exact Fin.ext e

theorem mem_of_emb {S : Shape} {e : EltTy} {sp : Space} (v : View sig .tc sp S e) (y : S.Idx) (i : v.ty.Idx) (h : v.emb y = i) : i ∈ v.set := by
  subst h; exact v.emb_mem_set y

/-- Every element of the first result is written by the point of its group of 512 columns. -/
theorem cover3 (i : S1024x13312.Idx) : ∃ t : Fin (cfgM m).N, ((cfgM m).win 3).flush t = true ∧ i ∈ (((cfgM m).win 3).blk t).view.set := by
  have h : (i 1).val < 13312 := (i 1).isLt
  have ht : (i 1).val / 512 < 26 := by omega
  have e := emb3 m (⟨(i 1).val / 512, ht⟩ : Fin grid0.N) (ix2 (i 0) ⟨(i 1).val % 512, Nat.mod_lt _ (by omega)⟩) (by
    show 512 * ((i 1).val / 512) + (i 1).val % 512 < 13312
    omega)
  refine ⟨(⟨(i 1).val / 512, ht⟩ : Fin grid0.N), wrote_all m _, ?_⟩
  have ei : i = ix2 (i 0) ⟨512 * ((i 1).val / 512) + (i 1).val % 512, by omega⟩ := by
    funext a
    match a with
    | ⟨0, _⟩ => rfl
    | ⟨1, _⟩ => exact Fin.ext (by show (i 1).val = 512 * ((i 1).val / 512) + (i 1).val % 512; omega)
  exact mem_of_emb _ _ _ (e.trans ei.symm)

/-- The first result of the call. -/
theorem all_eq (c : Dev nD) : (data m 0 c).arrAt 3 (cfgM m).N = Cert.WprepRef.Read.val_main_v12 (F := F) (m ((c : Thread nD τ).loc main_arg0)) := by
  refine (data m 0 c).arrAt_eq_of_emb 3 _ (fun t _ y => ?_) (cover3 m)
  blk_simp
  rw [after_3]
  exact all_point m c t y

/-- The body's second store over the blocks it reads is the reference's second result. -/
theorem small_of (x : (⟨S1x1024x13376, .f32⟩ : BufTy).Contents (Elt F)) (u v : Vec F S32x1024 .f32)
    (hu : ∀ y : S32x1024.Idx, u y = x (ix3 0 (y 1) ⟨5120 + (y 0).val, by have h : (y 0).val < 32 := (y 0).isLt; omega⟩))
    (hv : ∀ y : S32x1024.Idx, v y = x (ix3 0 (y 1) ⟨9248 + (y 0).val, by have h : (y 0).val < 32 := (y 0).isLt; omega⟩)) (y : S1024x128.Idx) :
    k0_pay2 u v y = Cert.WprepRef.Read.val_main_v13 (F := F) x y := by
  obtain ⟨r, q, rfl⟩ : ∃ (r : Fin 1024) (q : Fin 128), y = ix2 r q := ⟨y 0, y 1, by funext a; match a with | ⟨0, _⟩ => rfl | ⟨1, _⟩ => rfl⟩
  rw [ref_small, ker_small]
  refine congrArg _ ?_
  by_cases h1 : q.val < 32
  · rw [dif_pos h1, dif_pos h1]; exact hu _
  by_cases h2 : q.val < 64
  · rw [dif_neg h1, dif_pos h2, dif_neg h1, dif_pos h2]; exact hv _
  · rw [dif_neg h1, dif_neg h2, dif_neg h1, dif_neg h2]

theorem small_point (c : Dev nD) (y : S1024x128.Idx) :
    smallOut m c y = Cert.WprepRef.Read.val_main_v13 (F := F) (m ((c : Thread nD τ).loc main_arg0)) y :=
  small_of _ _ _ (blk1_apply m c (firstPt m)) (blk2_apply m c (firstPt m)) y

theorem emb4 (t : Fin (cfgM m).N) (y : S1024x128.Idx) :
    ((((cfgM m).win 4).blk t).view.emb y : S1024x128.Idx) = y := by
  funext a
  apply Fin.ext
  refine (Window.rect_emb_val ((cfgM m).win 4) t y a).trans ?_
  match a with
  | ⟨0, _⟩ => exact (congrArg (· + (y 0).val) (Nat.zero_mul _)).trans (Nat.zero_add _)
  | ⟨1, _⟩ => exact (congrArg (· + (y 1).val) (Nat.zero_mul _)).trans (Nat.zero_add _)

theorem cover4 (i : S1024x128.Idx) : ∃ t : Fin (cfgM m).N, ((cfgM m).win 4).flush t = true ∧ i ∈ (((cfgM m).win 4).blk t).view.set :=
  ⟨(⟨25, by decide⟩ : Fin grid0.N), (wrote_small m _).mpr rfl, mem_of_emb _ _ _ (emb4 m (⟨25, by decide⟩ : Fin grid0.N) i)⟩

/-- The second result of the call. -/
theorem small_eq (c : Dev nD) : (data m 0 c).arrAt 4 (cfgM m).N = Cert.WprepRef.Read.val_main_v13 (F := F) (m ((c : Thread nD τ).loc main_arg0)) := by
  refine (data m 0 c).arrAt_eq_of_emb 4 _ (fun t _ y => ?_) (cover4 m)
  blk_simp
  rw [after_4]
  exact (small_point m c y).trans (congrArg _ (emb4 m t y).symm)

/-- From any launch memory both results are the reference's terms of the argument, which is unchanged. -/
theorem values (ρ : Dev nD → PrngReg) : θ_run defs (onTc (τ := τ) (main (F := F))) ⟨m, fun _ => 0, ρ⟩ (fun r => ∀ c : Dev nD,
      r.2.mem ((c.tc : Thread nD τ).loc main_v2_0) = Cert.WprepRef.Read.val_main_v12 (F := F) (m ((c.tc : Thread nD τ).loc main_arg0))
      ∧ r.2.mem ((c.tc : Thread nD τ).loc main_v2_1) = Cert.WprepRef.Read.val_main_v13 (F := F) (m ((c.tc : Thread nD τ).loc main_arg0))
      ∧ r.2.mem ((c.tc : Thread nD τ).loc main_arg0) = m ((c.tc : Thread nD τ).loc main_arg0)) :=
  (θ_run defs _ _).mono (fun _ h c => ⟨((h.1 c).1 3).trans (all_eq m c), ((h.1 c).1 4).trans (small_eq m c),
    ((h.1 c).2 main_arg0 (by decide : main_arg0 ∈ Pipeline.restRefs sig spec0)).trans (V_arg m c)⟩) (ran m ρ)

end Cert.Wprep.Hand

end
-- ==== Proof.WprepClaim.lean ====
/- The weight relayout call's part of the claim. -/
module

public import proofs.«01_k».proof.Defs
public import proofs.«01_k».proof.Proof.WprepValue
public import proofs.«01_k».proof.Proof.Gen.WprepIdeal
public import proofs.«01_k».proof.Proof.Gen.WprepRefIdeal.Run
public import proofs.«01_k».proof.Proof.Gen.WprepRefIdeal.Read

@[expose] public section

set_option maxRecDepth 16384

noncomputable section

namespace Cert.Wprep.Hand

open Idealize.ShloMosaic Idealize.ShloMosaic.TcCoe Idealize.SL.Sem

/-- The program at the ideal instance is the same program. -/
theorem table_eq : Cert.WprepIdeal.defs₀ (F := Ideal) = Cert.Wprep.defs₀ (F := Ideal) := by
  unfold Cert.WprepIdeal.defs₀ Cert.Wprep.defs₀
  refine congrArg Defs.onTc ?_
  funext l x
  match l, x with
  | 0, (t, s) => rfl

theorem defs_eq : Cert.WprepIdeal.defs (F := Ideal) = Cert.Wprep.defs (F := Ideal) := congrArg (Pipeline.defs Cert.Wprep.pcfgs) table_eq

theorem quiet : quiescent_Wprep := fun m ρ _ => frame m ρ
theorem quiet_ideal : quiescent_WprepIdeal := by
  intro m ρ _
  rw [defs_eq]
  exact frame (F := Ideal) m ρ
theorem quiet_ref : quiescent_WprepRef := fun m ρ _ =>
  (θ_run Cert.WprepRef.defs _ _).mono (fun r h => ⟨fun c => (h c).2.2, sem_eq_zero_of_no_sems (by decide) r.2⟩) (Cert.WprepRef.Value.run (F := Bits) m ρ)
theorem quiet_ref_ideal : quiescent_WprepRefIdeal := fun m ρ _ =>
  (θ_run Cert.WprepRefIdeal.defs _ _).mono (fun r h => ⟨fun c => (h c).2.2, sem_eq_zero_of_no_sems (by decide) r.2⟩) (Cert.WprepRefIdeal.Value.run (F := Ideal) m ρ)
theorem same : preserves_Wprep_WprepIdeal := trivial

theorem ideal_eq : algebraic_WprepIdeal_WprepRefIdeal := by
  intro m ρ m' ρ' _ hx
  refine ⟨fun c => Cert.WprepRef.Read.val_main_v12 (F := Ideal) (m ((c.tc : Thread Cert.WprepIdeal.nD Cert.WprepIdeal.τ).loc Cert.WprepIdeal.main_arg0)),
    fun c => Cert.WprepRef.Read.val_main_v13 (F := Ideal) (m ((c.tc : Thread Cert.WprepIdeal.nD Cert.WprepIdeal.τ).loc Cert.WprepIdeal.main_arg0)), ?_, ?_⟩
  · rw [defs_eq]
    exact values (F := Ideal) m ρ
  refine (θ_run Cert.WprepRefIdeal.defs _ _).mono (fun _ h c => ?_) (Cert.WprepRefIdeal.Value.run (F := Ideal) m' ρ')
  obtain ⟨h0, h1, h2⟩ := h c
  refine ⟨h0.trans ?_, h1.trans ?_, h2⟩
  · exact (Cert.WprepRefIdeal.Read.val_main_v12_eq _).trans (congrArg (Cert.WprepRefIdeal.Read.val_main_v12 (F := Ideal)) (hx c))
  · exact (Cert.WprepRefIdeal.Read.val_main_v13_eq _).trans (congrArg (Cert.WprepRefIdeal.Read.val_main_v13 (F := Ideal)) (hx c))

theorem bits_eq : bitexact_Wprep_WprepRef := by
  intro m ρ m' ρ' _ hx
  refine ⟨fun c => Cert.WprepRef.Read.val_main_v12 (F := Bits) (m ((c.tc : Thread Cert.Wprep.nD Cert.Wprep.τ).loc Cert.Wprep.main_arg0)),
    fun c => Cert.WprepRef.Read.val_main_v13 (F := Bits) (m ((c.tc : Thread Cert.Wprep.nD Cert.Wprep.τ).loc Cert.Wprep.main_arg0)), values (F := Bits) m ρ, ?_⟩
  refine (θ_run Cert.WprepRef.defs _ _).mono (fun _ h c => ?_) (Cert.WprepRef.Value.run (F := Bits) m' ρ')
  obtain ⟨h0, h1, h2⟩ := h c
  refine ⟨h0.trans ?_, h1.trans ?_, h2⟩
  · exact (Cert.WprepRef.Read.val_main_v12_eq _).trans (congrArg (Cert.WprepRef.Read.val_main_v12 (F := Bits)) (hx c))
  · exact (Cert.WprepRef.Read.val_main_v13_eq _).trans (congrArg (Cert.WprepRef.Read.val_main_v13 (F := Bits)) (hx c))

end Cert.Wprep.Hand

end
-- ==== Proof.DenseMath.lean ====
/- The merge and feed-forward call's arithmetic, stage by stage, over the extended reals: what the body computes for a
   row of its blocks is what the reference computes for the row of its arguments. -/
module

public import proofs.«01_k».proof.Proof.Gen.DenseIdeal.Skeleton
public import proofs.«01_k».proof.Proof.Gen.DenseRefIdeal.Read
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.DenseIdeal.Hand

open Cert.DenseIdeal Cert.DenseIdeal.Gen Cert.DenseRefIdeal.Read
open Idealize.ShloMosaic Idealize.ShloMosaic.TcCoe Idealize.SL.Sem

section Merge

variable (x0 : FVec Ideal Cert.DenseRefIdeal.S2x8192x1024 .f32) (x1 x2 : FVec Ideal Cert.DenseRefIdeal.S2x8192x2048 .bf16)
variable (x3 : FVec Ideal Cert.DenseRefIdeal.S1024x13312 .bf16) (x4 : FVec Ideal Cert.DenseRefIdeal.S1x1024 .f32)
variable (x5 : FVec Ideal Cert.DenseRefIdeal.S1x2x2048x1024 .f32)
variable (xb : FVec Ideal S512x1024 .f32) (nb : FVec Ideal S1x1024 .f32) (wb : FVec Ideal S1024x2048 .bf16)
variable (sb db : FVec Ideal S512x2048 .bf16) (w0 w1 : FVec Ideal S2048x1024 .bf16)

theorem merged_at (r : Fin 512) (b : Fin 2) (l : Fin 8192)
    (hx : ∀ k, xb (ix2 r k) = x0 (ix3 b l k)) (hn : ∀ k, nb (ix2 0 k) = x4 (ix2 0 k))
    (hw : ∀ (k : Fin 1024) (q : Fin 2048), wb (ix2 k q) = x3 (ix2 k ⟨q.val, by omega⟩))
    (hs : ∀ k, sb (ix2 r k) = x1 (ix3 b l k)) (hd : ∀ k, db (ix2 r k) = x2 (ix3 b l k))
    (h0 : ∀ k q, Eq (α := EReal) (w0 (ix2 k q)) (x5 (ix4 0 0 k q))) (h1 : ∀ k q, Eq (α := EReal) (w1 (ix2 k q)) (x5 (ix4 0 1 k q)))
    (q : Fin 1024) :
    Eq (α := EReal) (k0_pay2 (F := Ideal) xb nb wb sb w0 db w1 (ix2 r q)) (val_main_v32 (F := Ideal) x0 x1 x2 x3 x4 x5 (ix3 b l q)) := by
  pointwise [k0_pay2, k0_pay1, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  simp only [hx, hn, hw, hs, hd, h0, h1, Ideal.logistic]
  have e (x y : Fin 2048 → EReal) : ∑ k, x k * y k = ∑ k, y k * x k := Finset.sum_congr rfl fun k _ => mul_comm _ _
  rw [e (fun k => x1 (ix3 b l k)), e (fun k => x2 (ix3 b l k))]
  simp only [Finset.univ_unique, Finset.sum_singleton]

end Merge

section Tail

variable (x0 : FVec Ideal Cert.DenseRefIdeal.S2x8192x1024 .f32) (x1 x2 : FVec Ideal Cert.DenseRefIdeal.S2x8192x2048 .bf16)
variable (x3 : FVec Ideal Cert.DenseRefIdeal.S1024x13312 .bf16) (x4 : FVec Ideal Cert.DenseRefIdeal.S1x1024 .f32)
variable (x5 : FVec Ideal Cert.DenseRefIdeal.S1x2x2048x1024 .f32) (x6 : FVec Ideal Cert.DenseRefIdeal.S1x1024x1024 .f32)
variable (x7 : FVec Ideal Cert.DenseRefIdeal.S1x1024 .f32) (x8 : FVec Ideal Cert.DenseRefIdeal.S1x1024x5632 .f32)
variable (x9 : FVec Ideal Cert.DenseRefIdeal.S1x2816x1024 .f32) (x10 : FVec Ideal Cert.DenseRefIdeal.S1024 .f32)
variable (xb : FVec Ideal S512x1024 .f32) (mb : FVec Ideal S512x1024 .bf16) (ob : FVec Ideal S1024x1024 .bf16)
variable (nb : FVec Ideal S1x1024 .f32) (gb : FVec Ideal S1024x5632 .bf16) (wb : FVec Ideal S2816x1024 .bf16) (fb : FVec Ideal S1x1024 .f32)

theorem tail_at (r : Fin 512) (b : Fin 2) (l : Fin 8192)
    (hx : ∀ k, xb (ix2 r k) = x0 (ix3 b l k))
    (hm : ∀ k, Eq (α := EReal) (mb (ix2 r k)) (val_main_v32 (F := Ideal) x0 x1 x2 x3 x4 x5 (ix3 b l k)))
    (ho : ∀ k q, Eq (α := EReal) (ob (ix2 k q)) (x6 (ix3 0 k q)))
    (hn : ∀ k, nb (ix2 0 k) = x7 (ix2 0 k))
    (hg : ∀ k q, Eq (α := EReal) (gb (ix2 k q)) (x8 (ix3 0 k q)))
    (hw : ∀ k q, Eq (α := EReal) (wb (ix2 k q)) (x9 (ix3 0 k q)))
    (hf : ∀ k, fb (ix2 0 k) = x10 (ix1 k)) (q : Fin 1024) :
    k0_pay4 (F := Ideal) (k0_pay1 xb) mb (k0_pay3 ob) nb gb wb fb (ix2 r q)
      = val_main_v71 (F := Ideal) x0 x1 x2 x3 x4 x5 x6 x7 x8 x9 x10 (ix3 b l q) := by
  pointwise [k0_pay4, k0_pay3, k0_pay1, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_call0_v0, val_main_call0_v1, val_main_call0_v2, val_main_call0_v3, val_main_call0_v4, val_main_call0_v5, val_main_call0_cst, val_main_call0_cst_0, val_main_cst_5, val_main_cst_6, val_main_cst_7, val_main_cst_8, val_main_cst_9, val_main_cst_10]
  simp only [hx, hm, ho, hn, hg, hw, hf, Ideal.logistic]

end Tail

end Cert.DenseIdeal.Hand
-- ==== Proof.DenseValue.lean ====
/- The merge and feed-forward call's result, over the extended reals, as the reference's term of its arguments. -/
module

public import proofs.«01_k».proof.Proof.Gen.Dense.Frame
public import proofs.«01_k».proof.Proof.Gen.DenseIdeal.Frame
public import proofs.«01_k».proof.Proof.Gen.DenseIdeal.Value
public import proofs.«01_k».proof.Proof.Gen.DenseRefIdeal.Run
public import proofs.«01_k».proof.Proof.DenseMath

@[expose] public section

set_option maxRecDepth 16384

noncomputable section

namespace Cert.DenseIdeal.Hand

open Cert.DenseIdeal Cert.DenseIdeal.Gen Cert.DenseRefIdeal.Read
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] := (by decide +kernel : ∀ t : Fin grid0.N, _)

theorem idx_lt (t : Fin cfg0.N) : t.val < 32 := t.isLt

/-- The batch and position of row `r` of the block of point `t`. -/
def bOf (t : Fin cfg0.N) (r : Fin 512) : Fin 2 := ⟨(512 * t.val + r.val) / 8192, by have := idx_lt t; omega⟩
def lOf (t : Fin cfg0.N) (r : Fin 512) : Fin 8192 := ⟨(512 * t.val + r.val) % 8192, Nat.mod_lt _ (by norm_num)⟩

theorem read0 (c : Dev nD) (t : Fin cfg0.N) (r : Fin 512) (k : Fin 1024) :
    (iblk m c 0 t : FVec Ideal S512x1024 .f32) (ix2 r k)
      = (m ((c : Thread nD τ).loc main_arg0) : FVec Ideal S2x8192x1024 .f32) (ix3 (bOf t r) (lOf t r) k) := by
  blk_point [iblk, idx t]
  · show (t.val * 512 + r.val) / 8192 = (512 * t.val + r.val) / 8192
    rw [Nat.mul_comm]
  · show (t.val * 512 + r.val) % 8192 = (512 * t.val + r.val) % 8192
    rw [Nat.mul_comm]

theorem read1 (c : Dev nD) (t : Fin cfg0.N) (r : Fin 512) (k : Fin 2048) :
    (iblk m c 1 t : FVec Ideal S512x2048 .bf16) (ix2 r k)
      = (m ((c : Thread nD τ).loc main_arg1) : FVec Ideal S2x8192x2048 .bf16) (ix3 (bOf t r) (lOf t r) k) := by
  blk_point [iblk, idx t]
  · show (t.val * 512 + r.val) / 8192 = (512 * t.val + r.val) / 8192
    rw [Nat.mul_comm]
  · show (t.val * 512 + r.val) % 8192 = (512 * t.val + r.val) % 8192
    rw [Nat.mul_comm]

theorem read2 (c : Dev nD) (t : Fin cfg0.N) (r : Fin 512) (k : Fin 2048) :
    (iblk m c 2 t : FVec Ideal S512x2048 .bf16) (ix2 r k)
      = (m ((c : Thread nD τ).loc main_arg2) : FVec Ideal S2x8192x2048 .bf16) (ix3 (bOf t r) (lOf t r) k) := by
  blk_point [iblk, idx t]
  · show (t.val * 512 + r.val) / 8192 = (512 * t.val + r.val) / 8192
    rw [Nat.mul_comm]
  · show (t.val * 512 + r.val) % 8192 = (512 * t.val + r.val) % 8192
    rw [Nat.mul_comm]

theorem read3 (c : Dev nD) (t : Fin cfg0.N) (k : Fin 1024) :
    (iblk m c 3 t : FVec Ideal S1x1024 .f32) (ix2 0 k)
      = (m ((c : Thread nD τ).loc main_arg4) : FVec Ideal S1x1024 .f32) (ix2 0 k) := by
  blk_point [iblk, V, idx t]

theorem read4 (c : Dev nD) (t : Fin cfg0.N) (k : Fin 1024) (q : Fin 2048) :
    (X0_4 m c t : FVec Ideal S1024x2048 .bf16) (ix2 k q)
      = (m ((c : Thread nD τ).loc main_arg3) : FVec Ideal S1024x13312 .bf16) (ix2 k ⟨q.val, by omega⟩) := by
  unfold X0_4 Pipeline.Window.fill
  rw [dif_pos (moved0_4 t _)]
  blk_point [iblk, V, idx t]

theorem read5 (c : Dev nD) (t : Fin cfg0.N) (k : Fin 2048) (q : Fin 1024) :
    Eq (α := EReal) ((iblk m c 5 t : FVec Ideal S2048x1024 .bf16) (ix2 k q))
      ((m ((c : Thread nD τ).loc main_arg5) : FVec Ideal S1x2x2048x1024 .f32) (ix4 0 0 k q)) := by
  blk_point [iblk, V, idx t]

theorem read6 (c : Dev nD) (t : Fin cfg0.N) (k : Fin 2048) (q : Fin 1024) :
    Eq (α := EReal) ((iblk m c 6 t : FVec Ideal S2048x1024 .bf16) (ix2 k q))
      ((m ((c : Thread nD τ).loc main_arg5) : FVec Ideal S1x2x2048x1024 .f32) (ix4 0 1 k q)) := by
  blk_point [iblk, V, idx t]

theorem read7 (c : Dev nD) (t : Fin cfg0.N) (k : Fin 1024) (q : Fin 1024) :
    Eq (α := EReal) ((iblk m c 7 t : FVec Ideal S1024x1024 .bf16) (ix2 k q))
      ((m ((c : Thread nD τ).loc main_arg6) : FVec Ideal S1x1024x1024 .f32) (ix3 0 k q)) := by
  blk_point [iblk, V, idx t]

theorem read8 (c : Dev nD) (t : Fin cfg0.N) (k : Fin 1024) :
    (iblk m c 8 t : FVec Ideal S1x1024 .f32) (ix2 0 k)
      = (m ((c : Thread nD τ).loc main_arg7) : FVec Ideal S1x1024 .f32) (ix2 0 k) := by
  blk_point [iblk, V, idx t]

theorem read9 (c : Dev nD) (t : Fin cfg0.N) (k : Fin 1024) (q : Fin 5632) :
    Eq (α := EReal) ((iblk m c 9 t : FVec Ideal S1024x5632 .bf16) (ix2 k q))
      ((m ((c : Thread nD τ).loc main_arg8) : FVec Ideal S1x1024x5632 .f32) (ix3 0 k q)) := by
  blk_point [iblk, V, idx t]

theorem read10 (c : Dev nD) (t : Fin cfg0.N) (k : Fin 2816) (q : Fin 1024) :
    Eq (α := EReal) ((iblk m c 10 t : FVec Ideal S2816x1024 .bf16) (ix2 k q))
      ((m ((c : Thread nD τ).loc main_arg9) : FVec Ideal S1x2816x1024 .f32) (ix3 0 k q)) := by
  blk_point [iblk, V, idx t]

theorem read11 (c : Dev nD) (t : Fin cfg0.N) (k : Fin 1024) :
    (iblk m c 11 t : FVec Ideal S1x1024 .f32) (ix2 0 k)
      = (m ((c : Thread nD τ).loc main_arg10) : FVec Ideal S1024 .f32) (ix1 k) := by
  blk_point [iblk, V, idx t]

/-- What the body stores at an element of its block is the reference's result at the row and column of that element. -/
theorem point (c : Dev nD) (t : Fin cfg0.N) (r : Fin 512) (q : Fin 1024) :
    k0_pay4 (F := Ideal) (k0_pay1 (iblk m c 0 t))
      (k0_pay2 (iblk m c 0 t) (iblk m c 3 t) (X0_4 m c t) (iblk m c 1 t) (iblk m c 5 t) (iblk m c 2 t) (iblk m c 6 t))
      (k0_pay3 (iblk m c 7 t)) (iblk m c 8 t) (iblk m c 9 t) (iblk m c 10 t) (iblk m c 11 t) (ix2 r q)
    = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 (bOf t r) (lOf t r) q) :=
  tail_at _ _ _ _ _ _ _ _ _ _ _ _ _ _ _ _ _ _ r (bOf t r) (lOf t r) (read0 m c t r)
    (merged_at _ _ _ _ _ _ _ _ _ _ _ _ _ r (bOf t r) (lOf t r) (read0 m c t r) (read3 m c t) (read4 m c t)
      (read1 m c t r) (read2 m c t r) (read5 m c t) (read6 m c t))
    (read7 m c t) (read8 m c t) (read9 m c t) (read10 m c t) (read11 m c t) q

theorem final (c : Dev nD) : (dats m 0 c).arrAt 12 cfg0.N
    = val_main_v72 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) := by
  refine (dats m 0 c).arrAt_eq_of_covers 12 _ (by decide +kernel) fun t _ y => ?_
  blk_simp
  rw [after0_12]; unfold outsAt0; frame_out
  have e : y = ix2 (⟨(y 0).val, (y 0).isLt⟩ : Fin 512) (⟨(y 1).val, (y 1).isLt⟩ : Fin 1024) :=
    funext fun a => match a with | ⟨0, _⟩ => rfl | ⟨1, _⟩ => rfl
  refine Eq.trans ?_ (val_main_v72_apply _ _ _ _ _ _ _ _ _ _ _ _).symm
  refine (congrArg _ e).trans ((point m c t _ _).trans (congrArg _ ?_))
  blk_ext [idx t]
  · show (512 * t.val + (y 0).val) / 8192 = _
    omega
  · show (512 * t.val + (y 0).val) % 8192 = _
    omega

end Cert.DenseIdeal.Hand
-- ==== Proof.DenseClaim.lean ====
/- The merge and feed-forward call's part of the claim. -/
module

public import proofs.«01_k».proof.Defs
public import proofs.«01_k».proof.Proof.DenseValue

@[expose] public section

set_option maxRecDepth 16384

noncomputable section

namespace Cert.Dense.Hand

open Idealize.ShloMosaic Idealize.ShloMosaic.TcCoe Idealize.SL.Sem

theorem quiet : quiescent_Dense := fun m ρ _ => Cert.Dense.Gen.frame m ρ
theorem quiet_ideal : quiescent_DenseIdeal := fun m ρ _ => Cert.DenseIdeal.Gen.frame m ρ
theorem quiet_ref_ideal : quiescent_DenseRefIdeal := fun m ρ _ =>
  (θ_run Cert.DenseRefIdeal.defs _ _).mono (fun r h => ⟨fun c => (h c).2, sem_eq_zero_of_no_sems (by decide) r.2⟩) (Cert.DenseRefIdeal.Value.run (F := Ideal) m ρ)
theorem same : preserves_Dense_DenseIdeal := trivial

theorem ideal_eq : algebraic_DenseIdeal_DenseRefIdeal := by
  intro m ρ m' ρ' _ hx
  refine ⟨fun c => Cert.DenseRefIdeal.Value.res_main_v72 m' c, ?_, Cert.DenseRefIdeal.Value.run (F := Ideal) m' ρ'⟩
  refine (θ_run Cert.DenseIdeal.defs _ _).mono (fun _ h c => ?_) (Cert.DenseIdeal.Value.run_blocks (F := Ideal) m ρ)
  refine ⟨(h c).1.trans ((Cert.DenseIdeal.Hand.final m c).trans ?_), (h c).2⟩
  obtain ⟨e0, e1, e2, e3, e4, e5, e6, e7, e8, e9, e10⟩ := hx c
  refine Eq.trans ?_ (Cert.DenseRefIdeal.Read.val_main_v72_eq m' c).symm
  rw [e0, e1, e2, e3, e4, e5, e6, e7, e8, e9, e10]

end Cert.Dense.Hand

end
-- ==== Proof.InprojRun.lean ====
/- The run of the input projection call with both of its outputs named: the schedule of the second output and
   of the carried buffer, the body in its two cases, the proof data and the run from any launch memory, over
   any interpretation of the floats. -/
module

public import proofs.«01_k».proof.Proof.Gen.Inproj.Frame
public import proofs.«01_k».proof.Proof.Gen.Inproj.Skeleton
public import Idealize.ShloMosaic.Lib.Pipeline.FrameBody
public import Idealize.ShloMosaic.Lib.Pipeline.Value
public import Idealize.ShloMosaic.Lib.VecWindow
public import Idealize.ShloMosaic.Lib.Tactic
public import Idealize.ShloMosaic.Lib.WordCmp
public import Idealize.ShloMosaic.Lib.Claim

@[expose] public section

set_option maxRecDepth 16384

noncomputable section

namespace Cert.Inproj.Hand

open Cert.Inproj Cert.Inproj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The body norms its row tile and writes the second output at the first point of each run of eleven. -/
abbrev first (i : grid0.Coords) : Prop := k0_cond1 i = 1#1

theorem first_iff : ∀ t : Fin grid0.N, first (grid0.coords t) ↔ t.val % 11 = 0 := by decide +kernel

/-- The first point of a point's run. -/
def base (t : Fin cfg0.N) : Fin cfg0.N := ⟨t.val - t.val % 11, Nat.lt_of_le_of_lt (Nat.sub_le _ _) t.isLt⟩

theorem base_self (t : Fin cfg0.N) (h : t.val % 11 = 0) : base t = t :=
  Fin.ext (by show t.val - t.val % 11 = t.val; omega)

/-- The point before. -/
abbrev before1 (t : Fin cfg0.N) : Fin cfg0.N := ⟨t.val - 1, Nat.lt_of_le_of_lt (Nat.sub_le _ _) t.isLt⟩

theorem base_step (t : Fin cfg0.N) (h : t.val % 11 ≠ 0) : base (before1 t) = base t :=
  Fin.ext (by show t.val - 1 - (t.val - 1) % 11 = t.val - t.val % 11; omega)

/-! ## What the body leaves -/

/-- The normed rows of a point's tile, in the carried buffer. -/
def rows (c : Dev nD) (t : Fin cfg0.N) : Vec F S2064x1024 .bf16 := k0_pay2 (iblk m c 0 (base t)) (iblk m c 1 (base t))

/-- What a point leaves in the first output's buffer. -/
def wideOut (c : Dev nD) (t : Fin cfg0.N) : Vec F S2064x1024 .bf16 := k0_pay4 (rows m c t) (iblk m c 2 t)

/-- What a run leaves in the second output's buffer. -/
def smallOut (c : Dev nD) (t : Fin cfg0.N) : Vec F S2064x128 .f32 :=
  k0_pay3 (iblk m c 0 (base t)) (iblk m c 1 (base t)) (iblk m c 3 (base t))

theorem rows_step (c : Dev nD) (t : Fin cfg0.N) (h : t.val % 11 ≠ 0) : rows m c (before1 t) = rows m c t := by
  unfold rows; rw [base_step t h]
theorem smallOut_step (c : Dev nD) (t : Fin cfg0.N) (h : t.val % 11 ≠ 0) : smallOut m c (before1 t) = smallOut m c t := by
  unfold smallOut; rw [base_step t h]

/-! ## The body in its two cases -/

set_option maxHeartbeats 1000000 in
/-- At a run's first point the body leaves both outputs and the carried buffer at their payloads. -/
theorem body_first (c : Dev nD) (i : grid0.Coords) (arg2 : Memref sig .tc .vmem S2064x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S2064x1024 .bf16) (harg6 : arg6.IsWhole) (arg7 : Memref sig .tc .vmem S2064x128 .f32) (harg7 : arg7.IsWhole) (arg8 : Memref sig .tc .vmem S2064x1024 .bf16) (harg8 : arg8.IsWhole) (hc0 : first i)
    (x0 : Vec F S2064x1024 .f32) (x1 : Vec F S1x1024 .f32) (x2 : Vec F S1024x1024 .bf16) (x3 : Vec F S1024x128 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 (k0_pay2 x0 x1) x2) ∗ owns (c : Thread nD τ) arg7 fullShare (k0_pay3 x0 x1 x3) ∗ owns (c : Thread nD τ) arg8 fullShare (k0_pay2 x0 x1)) -∗ K ⟨⟩))
          ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans (congrArg₂ k0_pay4 ?_ ((View.readAt_full _ _ _).trans hf2))
    refine (View.readAt_full _ _ _).trans ((View.read_writes_full _ _ _ _ _).trans ?_)
    exact congrArg₂ k0_pay2 ((View.readAt_full _ _ _).trans hf0) ((View.readAt_full _ _ _).trans hf1)
  isplitl [H5]
  · iexists _; isplitr; swap; · iexact H5
    ipureintro
    refine (View.read_writes_full _ _ _ _ _).trans ?_
    exact congr (congrArg₂ k0_pay3 ((View.readAt_full _ _ _).trans hf0) ((View.readAt_full _ _ _).trans hf1)) ((View.readAt_full _ _ _).trans hf3)
  iexists _; isplitr; swap; · iexact H6
  ipureintro
  refine (View.read_writes_full _ _ _ _ _).trans ?_
  exact congrArg₂ k0_pay2 ((View.readAt_full _ _ _).trans hf0) ((View.readAt_full _ _ _).trans hf1)

set_option maxHeartbeats 1000000 in
/-- At a later point it leaves the first output at its payload over the carried buffer, and the rest as it was. -/
theorem body_later (c : Dev nD) (i : grid0.Coords) (arg2 : Memref sig .tc .vmem S2064x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S2064x1024 .bf16) (harg6 : arg6.IsWhole) (arg7 : Memref sig .tc .vmem S2064x128 .f32) (harg7 : arg7.IsWhole) (arg8 : Memref sig .tc .vmem S2064x1024 .bf16) (harg8 : arg8.IsWhole) (hc0 : ¬first i)
    (x0 : Vec F S2064x1024 .f32) (x1 : Vec F S1x1024 .f32) (x2 : Vec F S1024x1024 .bf16) (x3 : Vec F S1024x128 .bf16) (x5 : Vec F S2064x128 .f32) (u : Vec F S2064x1024 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare u
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 u x2) ∗ owns (c : Thread nD τ) arg7 fullShare x5 ∗ owns (c : Thread nD τ) arg8 fullShare u) -∗ K ⟨⟩))
          ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact (View.read_writes_full _ _ _ _ _).trans (congrArg₂ k0_pay4 ((View.readAt_full _ _ _).trans hf6) ((View.readAt_full _ _ _).trans hf2))
  isplitl [H5]
  · iexists _; isplitr; · ipureintro; exact hf5
    iexact H5
  iexists _; isplitr; · ipureintro; exact hf6
  iexact H6

/-! ## The proof data -/

/-- The carried buffer, whole. -/
abbrev scr : Memref sig .tc .vmem S2064x1024 .bf16 := Memref.whole cc0_scratch0

theorem held_eq (c : Dev nD) : (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- Between points the carried buffer holds the rows the point before used. -/
def held (c : Dev nD) : (n : ℕ) → n ≤ cfg0.N → sProp 𝕄
  | 0, _ => Pipeline.ΦA spec0 c
  | n + 1, hn => iprop(owns (c : Thread nD τ) scr fullShare (rows m c ⟨n, hn⟩) ∗ (∃ r, prngReg c r))

theorem held_zero (c : Dev nD) (n : ℕ) (h : n ≤ cfg0.N) (hz : n = 0) : held m c n h = Pipeline.ΦA spec0 c := by
  subst hz; rfl

theorem held_pos (c : Dev nD) (n : ℕ) (h : n ≤ cfg0.N) (hz : n ≠ 0) :
    held m c n h = iprop(owns (c : Thread nD τ) scr fullShare (rows m c ⟨n - 1, by omega⟩) ∗ (∃ r, prngReg c r)) := by
  cases n with
  | zero => exact absurd rfl hz
  | succ n => rfl

/-- The named contents forgotten. -/
theorem held_any (c : Dev nD) (n : ℕ) (h : n ≤ cfg0.N) : held m c n h ⊢ Pipeline.ΦA spec0 c := by
  by_cases hz : n = 0
  · rw [held_zero m c n h hz]
  · rw [held_pos m c n h hz, held_eq]
    iintro ⟨H, Hg⟩
    isplitl [H]
    · iexists _; iexact H
    iexact Hg

def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wideOut m c t
    | ⟨5, _⟩ => smallOut m c t
  Φ t := held m c t.val (Nat.le_of_lt_succ t.isLt)
  q _ := fullShare
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]; try rfl
theorem after_1 (c : Dev nD) (t : Fin cfg0.N) : (data m 0 c).after 1 t = iblk m c 1 t := by dsimp only [data]; try rfl
theorem after_2 (c : Dev nD) (t : Fin cfg0.N) : (data m 0 c).after 2 t = iblk m c 2 t := by dsimp only [data]; try rfl
theorem after_3 (c : Dev nD) (t : Fin cfg0.N) : (data m 0 c).after 3 t = iblk m c 3 t := by dsimp only [data]; try rfl
theorem after_4 (c : Dev nD) (t : Fin cfg0.N) : (data m 0 c).after 4 t = wideOut m c t := by dsimp only [data]; try rfl
theorem after_5 (c : Dev nD) (t : Fin cfg0.N) : (data m 0 c).after 5 t = smallOut m c t := by dsimp only [data]; try rfl

theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d
theorem before_3 (c : Dev nD) (t : Fin cfg0.N) (d) : (data m 0 c).before 3 t d = iblk m c 3 t :=
  before0_3_of m (data m 0 c) (data_A m c 3) (after_3 m c) t d

theorem idle_later (t : Fin cfg0.N) (ht : t.val % 11 ≠ 0) : cfg0.idle 5 (cfg0.grid.coords t) = true := by
  have h : ¬ first (grid0.coords t) := fun h => ht ((first_iff t).mp h)
  show (!(k0_cond1 (grid0.coords t) == 1#1)) = true
  simpa using h

theorem live_first (t : Fin cfg0.N) (ht : t.val % 11 = 0) : cfg0.idle 5 (cfg0.grid.coords t) = false := by
  have h : first (grid0.coords t) := (first_iff t).mpr ht
  show (!(k0_cond1 (grid0.coords t) == 1#1)) = false
  simpa using h

/-- After a run's first point the second output's buffer holds what that point stored. -/
theorem before_5 (c : Dev nD) (d) : ∀ (n : ℕ) (t : Fin cfg0.N), t.val % 11 = n + 1 → (data m 0 c).before 5 t d = smallOut m c t := by
  intro n
  induction n with
  | zero =>
    intro t ht
    rw [Dat.before_of_pos _ 5 t (by omega) rfl]
    have hf : (cfg0.win 5).flush (before1 t) = false := by
      rw [Bool.eq_false_iff]; intro h; have := (flush0_5 _).mp h; simp only [] at this; omega
    rw [hf, if_neg Bool.false_ne_true]
    unfold Dat.left
    rw [live_first (before1 t) (by show (t.val - 1) % 11 = 0; omega)]
    unfold Dat.kept
    rw [after_5]
    exact smallOut_step m c t (by omega)
  | succ n ih =>
    intro t ht
    rw [Dat.before_of_pos _ 5 t (by omega) rfl]
    have hf : (cfg0.win 5).flush (before1 t) = false := by
      rw [Bool.eq_false_iff]; intro h; have := (flush0_5 _).mp h; simp only [] at this; omega
    rw [hf, if_neg Bool.false_ne_true]
    unfold Dat.left
    rw [idle_later (before1 t) (by show (t.val - 1) % 11 ≠ 0; omega)]
    exact (ih (before1 t) (by show (t.val - 1) % 11 = n + 1; omega)).trans (smallOut_step m c t (by omega))

/-! ## The body obligation -/

def pre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d)))

def post (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t)

theorem leaves_live (c : Dev nD) (w : Fin cfg0.W) (t : Fin cfg0.N) (h : cfg0.idle w (cfg0.grid.coords t) = false) :
    (data m 0 c).leavesExact w t = owns (c : Thread nD τ) ((cfg0.win w).stage (cfg0.slots t w)) fullShare ((data m 0 c).after w t) := by
  unfold Dat.leavesExact; rw [h]; try rfl

theorem leaves_0 (c : Dev nD) (t : Fin cfg0.N) : (data m 0 c).leavesExact 0 t = owns (c : Thread nD τ) (st0_0 t) fullShare (iblk m c 0 t) :=
  (leaves_live m c 0 t rfl).trans (congrArg (owns (c : Thread nD τ) (st0_0 t) fullShare) (after_0 m c t))
theorem leaves_1 (c : Dev nD) (t : Fin cfg0.N) : (data m 0 c).leavesExact 1 t = owns (c : Thread nD τ) (st0_1 t) fullShare (iblk m c 1 t) :=
  (leaves_live m c 1 t rfl).trans (congrArg (owns (c : Thread nD τ) (st0_1 t) fullShare) (after_1 m c t))
theorem leaves_2 (c : Dev nD) (t : Fin cfg0.N) : (data m 0 c).leavesExact 2 t = owns (c : Thread nD τ) (st0_2 t) fullShare (iblk m c 2 t) :=
  (leaves_live m c 2 t rfl).trans (congrArg (owns (c : Thread nD τ) (st0_2 t) fullShare) (after_2 m c t))
theorem leaves_3 (c : Dev nD) (t : Fin cfg0.N) : (data m 0 c).leavesExact 3 t = owns (c : Thread nD τ) (st0_3 t) fullShare (iblk m c 3 t) :=
  (leaves_live m c 3 t rfl).trans (congrArg (owns (c : Thread nD τ) (st0_3 t) fullShare) (after_3 m c t))
theorem leaves_4 (c : Dev nD) (t : Fin cfg0.N) : (data m 0 c).leavesExact 4 t = owns (c : Thread nD τ) (st0_4 t) fullShare (wideOut m c t) :=
  (leaves_live m c 4 t rfl).trans (congrArg (owns (c : Thread nD τ) (st0_4 t) fullShare) (after_4 m c t))

/-- What is left of the second output's buffer: the payload, at every point. -/
theorem leaves_5_first (c : Dev nD) (t : Fin cfg0.N) (ht : t.val % 11 = 0) :
    (data m 0 c).leavesExact 5 t = owns (c : Thread nD τ) (st0_5 t) fullShare (smallOut m c t) :=
  (leaves_live m c 5 t (live_first t ht)).trans (congrArg (owns (c : Thread nD τ) (st0_5 t) fullShare) (after_5 m c t))

theorem leaves_5_later (c : Dev nD) (t : Fin cfg0.N) (ht : t.val % 11 ≠ 0) :
    owns (c : Thread nD τ) (st0_5 t) fullShare (smallOut m c t) ⊢ ((data m 0 c).leavesExact 5 t : sProp 𝕄) := by
  by_cases hf : (cfg0.win 5).flush t = true
  · have e : (data m 0 c).leavesExact 5 t = owns (c : Thread nD τ) (st0_5 t) fullShare ((data m 0 c).after 5 t) := by
      unfold Dat.leavesExact; rw [idle_later t ht, hf]; try rfl
    rw [e, after_5]
  · rw [Dat.leavesExact_idle _ 5 t (idle_later t ht) (Bool.eq_false_iff.mpr hf)]
    iintro H
    iexists (fun _ => Classical.arbitrary _)
    rw [before_5 m c _ (t.val % 11 - 1) t (by omega)]
    iexact H

theorem Φ_before (c : Dev nD) (t : Fin cfg0.N) : (data m 0 c).Φ t.castSucc = held m c t.val (Nat.le_of_lt t.isLt) := by
  dsimp only [data]; exact Pipeline.Dat.Φ_castSucc (held m c) t
theorem Φ_after (c : Dev nD) (t : Fin cfg0.N) :
    (data m 0 c).Φ t.succ = iprop(owns (c : Thread nD τ) scr fullShare (rows m c t) ∗ (∃ r, prngReg c r)) := rfl

set_option maxHeartbeats 1000000 in
theorem body_ok (c : Dev nD) (t : Fin cfg0.N) :
    pre m c t ⊢ wp frame (wpE (defs₀ (F := F)) Variants.none c none) Set.univ (bodyAt0 t) (fun _ => post m c t) := by
  unfold pre post
  simp only [before_0, before_1, before_2, before_3]
  rw [leaves_0 m c t, leaves_1 m c t, leaves_2 m c t, leaves_3 m c t, leaves_4 m c t, Φ_before, Φ_after,
    show (data m 0 c).owesAt () t.succ = (data m 0 c).owesAt () t.castSucc from rfl]
  by_cases h0 : t.val % 11 = 0
  · rw [leaves_5_first m c t h0]
    unfold wideOut smallOut rows
    rw [base_self t h0]
    refine (sep_mono_left (held_any m c t.val (Nat.le_of_lt t.isLt))).trans ?_
    rw [held_eq]
    iintro ⟨⟨H6, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ ((first_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iintro ⟨H0, H1, H2, H3, H4, H5, H6⟩
    isplitl [H6 Hg]
    · isplitl [H6]
      · iexact H6
      iexact Hg
    isplitl [Ho]; · iexact Ho
    isplitl [H0]; · iexact H0
    isplitl [H1]; · iexact H1
    isplitl [H2]; · iexact H2
    isplitl [H3]; · iexact H3
    isplitl [H4]; · iexact H4
    iexact H5
  · simp only [before_5 m c _ (t.val % 11 - 1) t (by omega)]
    rw [held_pos m c t.val _ (by omega), show rows m c ⟨t.val - 1, _⟩ = rows m c t from rows_step m c t h0]
    unfold wideOut
    iintro ⟨⟨H6, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ (fun h => h0 ((first_iff t).mp h)) (iblk m c 0 t) (iblk m c 1 t) (iblk m c 2 t) (iblk m c 3 t) (smallOut m c t) (rows m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [H6 Hg]
    · isplitl [H6]
      · iexact H6
      iexact Hg
    isplitl [Ho]; · iexact Ho
    isplitl [H0]; · iexact H0
    isplitl [H1]; · iexact H1
    isplitl [H2]; · iexact H2
    isplitl [H3]; · iexact H3
    isplitl [H4]; · iexact H4
    iapply (leaves_5_later m c t h0)
    iexact H5

theorem defs_row (t : Fin cfg0.N) :
    defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, defs_row]
  exact triple_restated (body_ok m c t) rfl .rfl fun _ => .rfl

/-! ## The run and the frame -/

set_option backward.isDefEq.respectTransparency.types false in
/-- From any launch memory the call ends with its windows' arrays at what the schedule writes, every other buffer as
    the call found it, and no semaphore counted up. -/
theorem ran : θ_run defs (onTc (τ := τ) (main (F := F))) (s₀ m ρ)
    (fun r => Pipeline.FramePost cfgs (data m) 0 (V m) r ∧ r.2.sem = fun _ => 0) :=
  Pipeline.θ_run_frame_track (Q' := _) cfgs (data m) (0 : Fin 1) launch0 defs₀ Variants.none m ρ main
    (hbody := fun c => (obligation m c).loose) (hshare := fun c w => by unfold Dat.share; split <;> rfl) (howed := fun _ _ => rfl)
    (V := V m) (hmain := hmain m Variants.none) (hA := data_A m)
    (hin := fun c => by rw [show (data m 0 c).Φ 0 = held m c 0 (Nat.zero_le _) from rfl, held_zero m c 0 _ rfl])
    (hout := fun c => held_any m c _ (Nat.le_refl _))

/-- The two results of the run. -/
theorem results : θ_run defs (onTc (τ := τ) (main (F := F))) (s₀ m ρ) (fun r => ∀ c : Dev nD,
      r.2.mem ((c : Thread nD τ).loc main_v6_0) = (data m 0 c).arrAt 4 cfg0.N
      ∧ r.2.mem ((c : Thread nD τ).loc main_v6_1) = (data m 0 c).arrAt 5 cfg0.N) :=
  (θ_run defs _ _).mono (fun _ h c => ⟨(h.1 c).1 4, (h.1 c).1 5⟩) (ran m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (data m) (data_A m) ((θ_run defs _ _).mono (fun _ h => h.1) (ran m ρ)))
    ((θ_run defs _ _).mono (fun _ h => h.2) (ran m ρ))

end Cert.Inproj.Hand

end
-- ==== Proof.InprojMath.lean ====
/- The input projection call's arithmetic, over the extended reals: what the body computes for a row of its blocks is
   what the reference computes for the row of its arguments. -/
module

public import proofs.«01_k».proof.Proof.Gen.Inproj.Skeleton
public import proofs.«01_k».proof.Proof.Gen.InprojRefIdeal.Read
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.Inproj.Hand

open Cert.Inproj Cert.Inproj.Gen Cert.InprojRefIdeal.Read
open Idealize.ShloMosaic Idealize.ShloMosaic.TcCoe Idealize.SL.Sem

variable (x0 : FVec Ideal Cert.InprojRefIdeal.S2x8192x1024 .f32) (x1 : FVec Ideal Cert.InprojRefIdeal.S16x1024 .f32)
variable (x2 : FVec Ideal Cert.InprojRefIdeal.S1x1024 .f32) (x3 : FVec Ideal Cert.InprojRefIdeal.S1024x13312 .bf16)
variable (x4 : FVec Ideal Cert.InprojRefIdeal.S1024x128 .bf16)
variable (xb : FVec Ideal S2064x1024 .f32) (nb : FVec Ideal S1x1024 .f32)

/-- Position `l` of the padded sequence: 48 rows of zeros, then the 16 meta rows, then the input. -/
def tok (b : Fin 2) (l : Fin 8256) (k : Fin 1024) : EReal :=
  if l.val < 48 then 0 else if h : l.val < 64 then x1 (ix2 ⟨l.val - 48, by omega⟩ k) else x0 (ix3 b ⟨l.val - 64, by omega⟩ k)

theorem tok_zero (b : Fin 2) (l : Fin 8256) (h : l.val < 48) (k : Fin 1024) : tok x0 x1 b l k = 0 := if_pos h

/-- The reference's sequence of meta rows and input. -/
theorem seq_at (b : Fin 2) (l : Fin 8256) (h : ¬ l.val < 48) (k : Fin 1024) :
    val_main_v2 (F := Ideal) x0 x1 (ix3 b (⟨l.val - 48, by omega⟩ : Fin 8208) k) = tok x0 x1 b l k := by
  unfold tok
  rw [if_neg h]
  pointwise [val_main_v2, val_main_v1, val_main_v0]
  by_cases h1 : l.val < 64
  · rw [dif_pos h1, dif_pos (by omega)]
  · rw [dif_neg h1, dif_neg (by omega)]
    exact congrArg x0 (congrArg (fun i => ix3 b i k) (Fin.ext (by show l.val - 48 - 16 = l.val - 64; omega)))

/-- The padded rows: zeros in front, then the normed sequence. -/
theorem padded_at (b : Fin 2) (l : Fin 8256) (q : Fin 1024) :
    val_main_v17 (F := Ideal) x0 x1 x2 (ix3 b l q)
      = if h : l.val < 48 then (0 : EReal) else val_main_v16 (F := Ideal) x0 x1 x2 (ix3 b (⟨l.val - 48, by omega⟩ : Fin 8208) q) := by
  pointwise [val_main_v17, val_main_call0_v0, val_main_c]
  by_cases h : l.val < 48
  · rw [dif_pos h, dif_neg (by omega)]
    show (((0#32 : BitVec 32).toInt : ℝ) : EReal) = 0
    simp
  · rw [dif_neg h, dif_pos (by omega)]

theorem rows_at (r : Fin 2064) (b : Fin 2) (l : Fin 8256)
    (hx : ∀ k, xb (ix2 r k) = tok x0 x1 b l k) (hn : ∀ k, nb (ix2 0 k) = x2 (ix2 0 k)) (q : Fin 1024) :
    Eq (α := EReal) (k0_pay1 (F := Ideal) xb nb (ix2 r q)) (val_main_v17 (F := Ideal) x0 x1 x2 (ix3 b l q)) := by
  rw [padded_at]
  by_cases h : l.val < 48
  · rw [dif_pos h]
    pointwise [k0_pay1]
    simp only [hx, tok_zero x0 x1 b l h, zero_mul]
  · rw [dif_neg h]
    pointwise [k0_pay1, val_main_v16, val_main_v15, val_main_v14, val_main_v13, val_main_v12, val_main_v11, val_main_v10, val_main_v9, val_main_v8, val_main_v7, val_main_v6, val_main_v5, val_main_v4, val_main_v3, val_main_cst, val_main_cst_0, val_main_cst_1]
    simp only [hx, hn, seq_at x0 x1 b l h]

variable (wb : FVec Ideal S1024x1024 .bf16) (sb : FVec Ideal S1024x128 .bf16)

/-- A row of the first output. -/
theorem wide_at (r : Fin 2064) (b : Fin 2) (l : Fin 8256) (j : Fin 11)
    (hx : ∀ k, xb (ix2 r k) = tok x0 x1 b l k) (hn : ∀ k, nb (ix2 0 k) = x2 (ix2 0 k))
    (hw : ∀ k q : Fin 1024, wb (ix2 k q) = x3 (ix2 k (⟨2048 + (1024 * j.val + q.val), by omega⟩ : Fin 13312))) (q : Fin 1024) :
    Eq (α := EReal) (k0_pay4 (F := Ideal) (k0_pay2 (F := Ideal) xb nb) wb (ix2 r q))
      (val_main_v23 (F := Ideal) x0 x1 x2 x3 (ix3 b l (⟨1024 * j.val + q.val, by omega⟩ : Fin 11264))) := by
  have hr := rows_at x0 x1 x2 xb nb r b l hx hn
  pointwise [k0_pay4, k0_pay2, val_main_v23, val_main_v20, val_main_v19, val_main_v18]
  simp only [hr, hw]

/-- A row of the second output. -/
theorem small_at (r : Fin 2064) (b : Fin 2) (l : Fin 8256)
    (hx : ∀ k, xb (ix2 r k) = tok x0 x1 b l k) (hn : ∀ k, nb (ix2 0 k) = x2 (ix2 0 k))
    (hs : ∀ (k : Fin 1024) (q : Fin 128), sb (ix2 k q) = x4 (ix2 k q)) (q : Fin 128) :
    Eq (α := EReal) (k0_pay3 (F := Ideal) xb nb sb (ix2 r q)) (val_main_v22 (F := Ideal) x0 x1 x2 x4 (ix3 b l q)) := by
  have hr := rows_at x0 x1 x2 xb nb r b l hx hn
  pointwise [k0_pay3, val_main_v22, val_main_v21]
  simp only [hr, hs]

end Cert.Inproj.Hand
-- ==== Proof.InprojValue.lean ====
/- The input projection call's two results, over the extended reals, as the reference's terms of its arguments. -/
module

public import proofs.«01_k».proof.Proof.InprojRun
public import proofs.«01_k».proof.Proof.InprojMath

@[expose] public section

set_option maxRecDepth 16384

noncomputable section

namespace Cert.Inproj.Hand

open Cert.Inproj Cert.Inproj.Gen Cert.InprojRefIdeal.Read
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 11, 0] ∧ win0_1.index t = ![0, 0] ∧ win0_2.index t = ![0, t.val % 11 + 2]
    ∧ win0_3.index t = ![0, 0] ∧ win0_4.index t = ![t.val / 11, t.val % 11] ∧ win0_5.index t = ![t.val / 11, 0] :=
  (by decide +kernel : ∀ t : Fin grid0.N, _)

theorem idx_lt (t : Fin cfg0.N) : t.val < 88 := t.isLt

/-- The batch, position and column tile of row `r` of the block of point `t`. -/
def bOf (t : Fin cfg0.N) (r : Fin 2064) : Fin 2 := ⟨(2064 * (t.val / 11) + r.val) / 8256, by have := idx_lt t; omega⟩
def lOf (t : Fin cfg0.N) (r : Fin 2064) : Fin 8256 := ⟨(2064 * (t.val / 11) + r.val) % 8256, Nat.mod_lt _ (by norm_num)⟩
def jOf (t : Fin cfg0.N) : Fin 11 := ⟨t.val % 11, Nat.mod_lt _ (by norm_num)⟩

theorem bOf_base (t : Fin cfg0.N) (r : Fin 2064) : bOf (base t) r = bOf t r :=
  Fin.ext (by show (2064 * ((t.val - t.val % 11) / 11) + r.val) / 8256 = (2064 * (t.val / 11) + r.val) / 8256
              rw [show (t.val - t.val % 11) / 11 = t.val / 11 by omega])
theorem lOf_base (t : Fin cfg0.N) (r : Fin 2064) : lOf (base t) r = lOf t r :=
  Fin.ext (by show (2064 * ((t.val - t.val % 11) / 11) + r.val) % 8256 = (2064 * (t.val / 11) + r.val) % 8256
              rw [show (t.val - t.val % 11) / 11 = t.val / 11 by omega])

abbrev A0 (c : Dev nD) : FVec Ideal S2x8192x1024 .f32 := m ((c : Thread nD τ).loc main_arg0)
abbrev A1 (c : Dev nD) : FVec Ideal S16x1024 .f32 := m ((c : Thread nD τ).loc main_arg1)
abbrev A2 (c : Dev nD) : FVec Ideal S1x1024 .f32 := m ((c : Thread nD τ).loc main_arg2)
abbrev A3 (c : Dev nD) : FVec Ideal S1024x13312 .bf16 := m ((c : Thread nD τ).loc main_arg3)
abbrev A4 (c : Dev nD) : FVec Ideal S1024x128 .bf16 := m ((c : Thread nD τ).loc main_arg4)

/-- The padded sequence as the host operations build it. -/
def packed (x0 : FVec Ideal S2x8192x1024 .f32) (x1 : FVec Ideal S16x1024 .f32) : FVec Ideal S2x8256x1024 .f32 :=
  concatenate S2x8256x1024 1 [⟨S2x64x1024, broadcastInDim S2x64x1024 ![0, 1, 2] bcast_S1x64x1024_S2x64x1024_0_1_2
    (broadcastInDim S1x64x1024 ![1, 2] bcast_S64x1024_S1x64x1024_1_2
      (concatenate S64x1024 0 [⟨S48x1024, broadcastInDim S48x1024 ![] bcast_S_S48x1024 (constant (F := Ideal) S_ .f32 0x00000000#32)⟩, ⟨S16x1024, x1⟩] concatenates_S48x1024_S16x1024_S64x1024_d0))⟩,
    ⟨S2x8192x1024, x0⟩] concatenates_S2x64x1024_S2x8192x1024_S2x8256x1024_d1

theorem V_packed (c : Dev nD) : V m c main_v5 = shapeCast S16512x1024 (packed (A0 m c) (A1 m c)) shapeCasts_S2x8256x1024_S16512x1024 := by
  unfold V packed A0 A1
  rfl

theorem packed_at (x0 : FVec Ideal S2x8192x1024 .f32) (x1 : FVec Ideal S16x1024 .f32) (b : Fin 2) (l : Fin 8256) (k : Fin 1024) :
    packed x0 x1 (ix3 b l k) = tok x0 x1 b l k := by
  unfold tok
  pointwise [packed]
  by_cases h : l.val < 48
  · rw [if_pos h, dif_pos (by omega), dif_pos h]
  · rw [if_neg h]
    by_cases h1 : l.val < 64
    · rw [dif_pos h1, dif_pos h1, dif_neg h]
    · rw [dif_neg h1, dif_neg h1]

theorem read0 (c : Dev nD) (t : Fin cfg0.N) (r : Fin 2064) (k : Fin 1024) :
    (iblk m c 0 t : FVec Ideal S2064x1024 .f32) (ix2 r k) = tok (A0 m c) (A1 m c) (bOf t r) (lOf t r) k := by
  rw [← packed_at]
  show V m c main_v5 _ = _
  rw [V_packed]
  generalize packed (A0 m c) (A1 m c) = P
  pointwise
  refine congrArg P ?_
  blk_ext [idx t]
  · show _ = (2064 * (t.val / 11) + r.val) / 8256
    omega
  · show _ = (2064 * (t.val / 11) + r.val) % 8256
    omega

theorem read1 (c : Dev nD) (t : Fin cfg0.N) (k : Fin 1024) :
    (iblk m c 1 t : FVec Ideal S1x1024 .f32) (ix2 0 k) = A2 m c (ix2 0 k) := by
  blk_point [iblk, V, idx t]

theorem read2 (c : Dev nD) (t : Fin cfg0.N) (k q : Fin 1024) :
    (iblk m c 2 t : FVec Ideal S1024x1024 .bf16) (ix2 k q)
      = A3 m c (ix2 k (⟨2048 + (1024 * (jOf t).val + q.val), by have := (jOf t).isLt; omega⟩ : Fin 13312)) := by
  blk_point [iblk, V, idx t]
  show (t.val % 11 + 2) * 1024 + q.val = 2048 + (1024 * (t.val % 11) + q.val)
  omega

theorem read3 (c : Dev nD) (t : Fin cfg0.N) (k : Fin 1024) (q : Fin 128) :
    (iblk m c 3 t : FVec Ideal S1024x128 .bf16) (ix2 k q) = A4 m c (ix2 k q) := by
  blk_point [iblk, V, idx t]

theorem read0_base (c : Dev nD) (t : Fin cfg0.N) (r : Fin 2064) (k : Fin 1024) :
    (iblk m c 0 (base t) : FVec Ideal S2064x1024 .f32) (ix2 r k) = tok (A0 m c) (A1 m c) (bOf t r) (lOf t r) k := by
  rw [read0, bOf_base, lOf_base]

theorem wide_point (c : Dev nD) (t : Fin cfg0.N) (r : Fin 2064) (q : Fin 1024) :
    Eq (α := EReal) ((wideOut m c t : FVec Ideal S2064x1024 .bf16) (ix2 r q))
      (val_main_v23 (F := Ideal) (A0 m c) (A1 m c) (A2 m c) (A3 m c)
        (ix3 (bOf t r) (lOf t r) (⟨1024 * (jOf t).val + q.val, by have := (jOf t).isLt; omega⟩ : Fin 11264))) :=
  wide_at _ _ _ _ _ _ _ r (bOf t r) (lOf t r) (jOf t) (read0_base m c t r) (read1 m c (base t)) (read2 m c t) q

theorem small_point (c : Dev nD) (t : Fin cfg0.N) (r : Fin 2064) (q : Fin 128) :
    Eq (α := EReal) ((smallOut m c t : FVec Ideal S2064x128 .f32) (ix2 r q))
      (val_main_v22 (F := Ideal) (A0 m c) (A1 m c) (A2 m c) (A4 m c) (ix3 (bOf t r) (lOf t r) q)) :=
  small_at _ _ _ _ _ _ _ r (bOf t r) (lOf t r) (read0_base m c t r) (read1 m c (base t)) (read3 m c (base t)) q

theorem final4 (c : Dev nD) : (data m 0 c).arrAt 4 cfg0.N = val_main_v24 (F := Ideal) (A0 m c) (A1 m c) (A2 m c) (A3 m c) := by
  refine (data m 0 c).arrAt_eq_of_covers 4 _ (by decide +kernel) fun t _ y => ?_
  blk_simp
  rw [after_4]
  have e : y = ix2 (⟨(y 0).val, (y 0).isLt⟩ : Fin 2064) (⟨(y 1).val, (y 1).isLt⟩ : Fin 1024) :=
    funext fun a => match a with | ⟨0, _⟩ => rfl | ⟨1, _⟩ => rfl
  refine Eq.trans ?_ (val_main_v24_apply _ _ _ _ _).symm
  refine (congrArg _ e).trans ((wide_point m c t _ _).trans (congrArg _ ?_))
  blk_ext [idx t]
  · show (2064 * (t.val / 11) + (y 0).val) / 8256 = _
    omega
  · show (2064 * (t.val / 11) + (y 0).val) % 8256 = _
    omega
  · show 1024 * (t.val % 11) + (y 1).val = _
    omega

theorem final5 (c : Dev nD) : (data m 0 c).arrAt 5 cfg0.N = val_main_v25 (F := Ideal) (A0 m c) (A1 m c) (A2 m c) (A4 m c) := by
  refine (data m 0 c).arrAt_eq_of_covers 5 _ (by decide +kernel) fun t _ y => ?_
  blk_simp
  rw [after_5]
  have e : y = ix2 (⟨(y 0).val, (y 0).isLt⟩ : Fin 2064) (⟨(y 1).val, (y 1).isLt⟩ : Fin 128) :=
    funext fun a => match a with | ⟨0, _⟩ => rfl | ⟨1, _⟩ => rfl
  refine Eq.trans ?_ (val_main_v25_apply _ _ _ _ _).symm
  refine (congrArg _ e).trans ((small_point m c t _ _).trans (congrArg _ ?_))
  blk_ext [idx t]
  · show (2064 * (t.val / 11) + (y 0).val) / 8256 = _
    omega
  · show (2064 * (t.val / 11) + (y 0).val) % 8256 = _
    omega

end Cert.Inproj.Hand
-- ==== Proof.InprojClaim.lean ====
/- The input projection call's part of the claim. -/
module

public import proofs.«01_k».proof.Defs
public import proofs.«01_k».proof.Proof.InprojValue
public import proofs.«01_k».proof.Proof.Gen.InprojIdeal
public import proofs.«01_k».proof.Proof.Gen.InprojRefIdeal.Run

@[expose] public section

set_option maxRecDepth 16384

noncomputable section

namespace Cert.Inproj.Hand

open Idealize.ShloMosaic Idealize.ShloMosaic.TcCoe Idealize.SL.Sem

/-- The program at the ideal instance is the same program. -/
theorem table_eq : Cert.InprojIdeal.defs₀ (F := Ideal) = Cert.Inproj.defs₀ (F := Ideal) := by
  unfold Cert.InprojIdeal.defs₀ Cert.Inproj.defs₀
  refine congrArg Defs.onTc ?_
  funext l x
  match l, x with
  | 0, (t, s) => rfl

theorem defs_eq : Cert.InprojIdeal.defs (F := Ideal) = Cert.Inproj.defs (F := Ideal) := congrArg (Pipeline.defs Cert.Inproj.pcfgs) table_eq

theorem quiet : quiescent_Inproj := fun m ρ _ => frame m ρ
theorem quiet_ideal : quiescent_InprojIdeal := by
  intro m ρ _
  rw [defs_eq]
  exact frame (F := Ideal) m ρ
theorem quiet_ref_ideal : quiescent_InprojRefIdeal := fun m ρ _ =>
  (θ_run Cert.InprojRefIdeal.defs _ _).mono (fun r h => ⟨fun c => (h c).2.2, sem_eq_zero_of_no_sems (by decide) r.2⟩) (Cert.InprojRefIdeal.Value.run (F := Ideal) m ρ)
theorem same : preserves_Inproj_InprojIdeal := trivial

theorem ideal_eq : algebraic_InprojIdeal_InprojRefIdeal := by
  intro m ρ m' ρ' _ hx
  refine ⟨fun c => Cert.InprojRefIdeal.Read.val_main_v24 (F := Ideal) (A0 m c) (A1 m c) (A2 m c) (A3 m c),
    fun c => Cert.InprojRefIdeal.Read.val_main_v25 (F := Ideal) (A0 m c) (A1 m c) (A2 m c) (A4 m c), ?_, ?_⟩
  · rw [defs_eq]
    exact (θ_run Cert.Inproj.defs _ _).mono (fun _ h c => ⟨(h.1 c).1.trans (final4 m c), (h.1 c).2.trans (final5 m c), h.2.1 c⟩)
      (θ_run_and (results (F := Ideal) m ρ) (frame (F := Ideal) m ρ))
  refine (θ_run Cert.InprojRefIdeal.defs _ _).mono (fun _ h c => ?_) (Cert.InprojRefIdeal.Value.run (F := Ideal) m' ρ')
  obtain ⟨h0, h1, h2⟩ := h c
  obtain ⟨e0, e1, e2, e3, e4⟩ := hx c
  refine ⟨h0.trans ?_, h1.trans ?_, h2⟩
  · refine (Cert.InprojRefIdeal.Read.val_main_v24_eq _ _ _ _).trans ?_
    rw [e0, e1, e2, e3]
  · refine (Cert.InprojRefIdeal.Read.val_main_v25_eq _ _ _ _).trans ?_
    rw [e0, e1, e2, e4]

end Cert.Inproj.Hand

end
-- ==== Proof.Unwritten.lean ====
/- What a list of host operations leaves alone. -/
module

public import proofs.«01_k».proof.Defs
public import Idealize.ShloMosaic.Lib.StableHlo.RunLoop

@[expose] public section

noncomputable section

namespace Cert.Unwritten

open Idealize.ShloMosaic Idealize.ShloMosaic.StableHlo

variable {τ : Topo} {sig : RefSig} {F : FTy → Type} [FloatOps F]

/-- A buffer that no operation of a chain of lists writes keeps its contents through it. -/
theorem kept_through (l : List (List (HloOp τ sig (Elt F))))
    (b : DevRef τ sig) (h : ∀ ops ∈ l, ∀ op ∈ ops, b ∉ op.writes)
    (V : Valuation τ sig (Elt F)) : afterL l V b = V b := by
  induction l generalizing V with
  | nil => rfl
  | cons ops rest ih =>
    exact (ih (fun o ho => h o (List.mem_cons_of_mem _ ho)) (after ops V)).trans
      (after_of_forall_not_mem ops V (h ops List.mem_cons_self))

/-- What a list of operations writes, read off its list of references. -/
theorem unwritten {ops : List (HloOp τ sig (Elt F))} {W : List (Ref sig .tc)}
    (hw : ops.Forall fun op => op.writes ⊆ (W.map (Proc.devRef (τ := τ) .tc)).toFinset)
    {b : Ref sig .tc} (hb : b ∉ W) : ∀ op ∈ ops, Proc.devRef .tc b ∉ op.writes := by
  intro op hop hin
  have := List.mem_toFinset.mp (List.forall_iff_forall_mem.mp hw op hop hin)
  obtain ⟨r, hr, e⟩ := List.mem_map.mp this
  exact hb (Proc.devRef_injective (τ := τ) .tc e ▸ hr)

end Cert.Unwritten

end
-- ==== Proof.SsdClaim.lean ====
/- The SSD call's part of the claim. -/
module

public import proofs.«01_k».proof.Defs
public import proofs.«01_k».proof.Proof.Unwritten
public import proofs.«01_k».proof.Proof.Gen.Ssd.Frame
public import proofs.«01_k».proof.Proof.Gen.SsdIdeal.Frame
public import proofs.«01_k».proof.Proof.Gen.SsdRefIdeal.Run

@[expose] public section

set_option maxRecDepth 16384

noncomputable section

namespace Cert.Ssd.Hand

open Idealize.ShloMosaic Idealize.ShloMosaic.StableHlo Idealize.ShloMosaic.TcCoe Idealize.SL.Sem Cert.Unwritten

theorem quiet : quiescent_Ssd := fun m ρ _ => Cert.Ssd.Gen.frame m ρ
theorem quiet_ideal : quiescent_SsdIdeal := fun m ρ _ => Cert.SsdIdeal.Gen.frame m ρ
variable {F : FTy → Type} [FloatOps F]

open Cert.SsdRefIdeal Cert.SsdRefIdeal.Gen Cert.SsdRefIdeal.Value in
/-- The buffers that `hostOps0_13` writes, in order. -/
abbrev hostOps0_13_Wr : List (Ref Cert.SsdRefIdeal.sig .tc) := [main_v106, main_v107, main_v108, main_v109, main_v110, main_v111, main_v112, main_v113, main_v114, main_v115, main_v116, main_v117, main_v118, main_v119, main_v120, main_v121, main_v122]
open Cert.SsdRefIdeal Cert.SsdRefIdeal.Gen Cert.SsdRefIdeal.Value in
theorem hostOps0_13_wr : (hostOps0_13 : List (HloOp Cert.SsdRefIdeal.τ Cert.SsdRefIdeal.sig (Elt F))).Forall fun op =>
    op.writes ⊆ (hostOps0_13_Wr.map (Proc.devRef (τ := Cert.SsdRefIdeal.τ) .tc)).toFinset :=
  StableHlo.forall_writes_sub_of_map rfl

open Cert.SsdRefIdeal Cert.SsdRefIdeal.Gen Cert.SsdRefIdeal.Value in
/-- The buffers that `hostOps0_14` writes, in order. -/
abbrev hostOps0_14_Wr : List (Ref Cert.SsdRefIdeal.sig .tc) := [main_call9_v0, main_call9_v1, main_call9_cst, main_call9_v2, main_call9_v3, main_call9_cst_0, main_call9_v4, main_call9_v5, main_v123]
open Cert.SsdRefIdeal Cert.SsdRefIdeal.Gen Cert.SsdRefIdeal.Value in
theorem hostOps0_14_wr : (hostOps0_14 : List (HloOp Cert.SsdRefIdeal.τ Cert.SsdRefIdeal.sig (Elt F))).Forall fun op =>
    op.writes ⊆ (hostOps0_14_Wr.map (Proc.devRef (τ := Cert.SsdRefIdeal.τ) .tc)).toFinset :=
  StableHlo.forall_writes_sub_of_map rfl

open Cert.SsdRefIdeal Cert.SsdRefIdeal.Gen Cert.SsdRefIdeal.Value in
/-- The buffers that `hostOps0_15` writes, in order. -/
abbrev hostOps0_15_Wr : List (Ref Cert.SsdRefIdeal.sig .tc) := [main_v124, main_v125, main_v126, main_cst_6, main_v127, main_v128, main_cst_7, main_v129, main_v130, main_cst_8, main_v131, main_v132, main_v133, main_v134, main_v135, main_v136, main_v137, main_v138, main_v139, main_v140, main_v141, main_v142]
open Cert.SsdRefIdeal Cert.SsdRefIdeal.Gen Cert.SsdRefIdeal.Value in
theorem hostOps0_15_wr : (hostOps0_15 : List (HloOp Cert.SsdRefIdeal.τ Cert.SsdRefIdeal.sig (Elt F))).Forall fun op =>
    op.writes ⊆ (hostOps0_15_Wr.map (Proc.devRef (τ := Cert.SsdRefIdeal.τ) .tc)).toFinset :=
  StableHlo.forall_writes_sub_of_map rfl

/-- The arguments of the reference. -/
def argRefs : List (Ref Cert.SsdRefIdeal.sig .tc) :=
  [Cert.SsdRefIdeal.main_arg0, Cert.SsdRefIdeal.main_arg1, Cert.SsdRefIdeal.main_arg2, Cert.SsdRefIdeal.main_arg3,
    Cert.SsdRefIdeal.main_arg4, Cert.SsdRefIdeal.main_arg5, Cert.SsdRefIdeal.main_arg6, Cert.SsdRefIdeal.main_arg7]

open Cert.SsdRefIdeal Cert.SsdRefIdeal.Gen Cert.SsdRefIdeal.Value in
/-- The reference leaves its arguments as they were. -/
theorem ref_keeps (m : (ℓ : Loc Cert.SsdRefIdeal.nD Cert.SsdRefIdeal.τ Cert.SsdRefIdeal.sig) → Buf (Elt F) ℓ)
    (c : Dev Cert.SsdRefIdeal.nD) (b : Ref Cert.SsdRefIdeal.sig .tc) (hb : b ∈ argRefs) :
    finalContents condOps preI bodyI postI 129 m c (Proc.devRef .tc b) = m ((c.tc : Thread Cert.SsdRefIdeal.nD Cert.SsdRefIdeal.τ).loc b) := by
  have hpost : ∀ ops ∈ postI (F := F), ∀ op ∈ ops, Proc.devRef .tc b ∉ op.writes := by
    intro ops ho
    fin_cases ho
    · exact unwritten hostOps0_13_wr ((by decide +kernel : ∀ b ∈ argRefs, b ∉ hostOps0_13_Wr) b hb)
    · exact unwritten hostOps0_14_wr ((by decide +kernel : ∀ b ∈ argRefs, b ∉ hostOps0_14_Wr) b hb)
    · exact unwritten hostOps0_15_wr ((by decide +kernel : ∀ b ∈ argRefs, b ∉ hostOps0_15_Wr) b hb)
  have hbody : ∀ ops ∈ bodyI (F := F), ∀ op ∈ ops, Proc.devRef .tc b ∉ op.writes := by
    intro ops ho
    fin_cases ho
    · exact unwritten while0Ops0_writes ((by decide +kernel : ∀ b ∈ argRefs, b ∉ while0Ops0_W) b hb)
    · exact unwritten while0Ops0_1_writes ((by decide +kernel : ∀ b ∈ argRefs, b ∉ while0Ops0_1_W) b hb)
    · exact unwritten while0Ops0_2_writes ((by decide +kernel : ∀ b ∈ argRefs, b ∉ while0Ops0_2_W) b hb)
    · exact unwritten while0Ops0_3_writes ((by decide +kernel : ∀ b ∈ argRefs, b ∉ while0Ops0_3_W) b hb)
    · exact unwritten while0Ops0_4_writes ((by decide +kernel : ∀ b ∈ argRefs, b ∉ while0Ops0_4_W) b hb)
  have hpre : ∀ ops ∈ preI (F := F), ∀ op ∈ ops, Proc.devRef .tc b ∉ op.writes := by
    intro ops ho
    fin_cases ho
    · exact unwritten hostOps0_writes ((by decide +kernel : ∀ b ∈ argRefs, b ∉ hostOps0_W) b hb)
    · exact unwritten hostOps0_1_writes ((by decide +kernel : ∀ b ∈ argRefs, b ∉ hostOps0_1_W) b hb)
    · exact unwritten hostOps0_2_writes ((by decide +kernel : ∀ b ∈ argRefs, b ∉ hostOps0_2_W) b hb)
    · exact unwritten hostOps0_3_writes ((by decide +kernel : ∀ b ∈ argRefs, b ∉ hostOps0_3_W) b hb)
    · exact unwritten hostOps0_4_writes ((by decide +kernel : ∀ b ∈ argRefs, b ∉ hostOps0_4_W) b hb)
    · exact unwritten hostOps0_5_writes ((by decide +kernel : ∀ b ∈ argRefs, b ∉ hostOps0_5_W) b hb)
    · exact unwritten hostOps0_6_writes ((by decide +kernel : ∀ b ∈ argRefs, b ∉ hostOps0_6_W) b hb)
    · exact unwritten hostOps0_7_writes ((by decide +kernel : ∀ b ∈ argRefs, b ∉ hostOps0_7_W) b hb)
    · exact unwritten hostOps0_8_writes ((by decide +kernel : ∀ b ∈ argRefs, b ∉ hostOps0_8_W) b hb)
    · exact unwritten hostOps0_9_writes ((by decide +kernel : ∀ b ∈ argRefs, b ∉ hostOps0_9_W) b hb)
    · exact unwritten hostOps0_10_writes ((by decide +kernel : ∀ b ∈ argRefs, b ∉ hostOps0_10_W) b hb)
    · exact unwritten hostOps0_11_writes ((by decide +kernel : ∀ b ∈ argRefs, b ∉ hostOps0_11_W) b hb)
    · exact unwritten hostOps0_12_writes ((by decide +kernel : ∀ b ∈ argRefs, b ∉ hostOps0_12_W) b hb)
  have hcond : ∀ V : Valuation Cert.SsdRefIdeal.τ Cert.SsdRefIdeal.sig (Elt F), StableHlo.after condOps V (Proc.devRef .tc b) = V (Proc.devRef .tc b) :=
    fun V => StableHlo.after_of_forall_not_mem condOps V
      (unwritten condOps_writes ((by decide +kernel : ∀ b ∈ argRefs, b ∉ condOps_W) b hb))
  have htrips : ∀ k, atTrip condOps bodyI (entryContents preI m) k c (Proc.devRef .tc b) = entryContents preI m c (Proc.devRef .tc b) := by
    intro k
    induction k with
    | zero => rfl
    | succ k ih => exact (kept_through bodyI _ hbody _).trans ((hcond _).trans ih)
  exact (kept_through postI _ hpost _).trans ((hcond _).trans ((htrips 129).trans ((kept_through preI _ hpre _).trans rfl)))

theorem quiet_ref_ideal : quiescent_SsdRefIdeal := by
  intro m ρ _
  refine (θ_run Cert.SsdRefIdeal.defs _ _).mono (fun r h => ⟨fun c => ?_, sem_eq_zero_of_no_sems (by decide) r.2⟩)
    (Cert.SsdRefIdeal.Value.run_fold (F := Ideal) m ρ)
  have k : ∀ b : Ref Cert.SsdRefIdeal.sig .tc, b ∈ argRefs →
      (Proc.devRef .tc b : DevRef Cert.SsdRefIdeal.τ Cert.SsdRefIdeal.sig).isScoped = false →
      r.2.mem ((c.tc : Thread Cert.SsdRefIdeal.nD Cert.SsdRefIdeal.τ).loc b) = m ((c.tc : Thread Cert.SsdRefIdeal.nD Cert.SsdRefIdeal.τ).loc b) :=
    fun b hb hs => (h c b hs).trans (ref_keeps m c b hb)
  exact ⟨k _ (by decide : Cert.SsdRefIdeal.main_arg0 ∈ argRefs) rfl, k _ (by decide : Cert.SsdRefIdeal.main_arg1 ∈ argRefs) rfl, k _ (by decide : Cert.SsdRefIdeal.main_arg2 ∈ argRefs) rfl, k _ (by decide : Cert.SsdRefIdeal.main_arg3 ∈ argRefs) rfl, k _ (by decide : Cert.SsdRefIdeal.main_arg4 ∈ argRefs) rfl, k _ (by decide : Cert.SsdRefIdeal.main_arg5 ∈ argRefs) rfl, k _ (by decide : Cert.SsdRefIdeal.main_arg6 ∈ argRefs) rfl, k _ (by decide : Cert.SsdRefIdeal.main_arg7 ∈ argRefs) rfl⟩

theorem same : preserves_Ssd_SsdIdeal := trivial

end Cert.Ssd.Hand

end
-- ==== Proof.DnClaim.lean ====
/- The DeltaNet call's part of the claim. -/
module

public import proofs.«01_k».proof.Defs
public import proofs.«01_k».proof.Proof.Unwritten
public import proofs.«01_k».proof.Proof.Gen.Dn.Frame
public import proofs.«01_k».proof.Proof.Gen.DnIdeal.Frame
public import proofs.«01_k».proof.Proof.Gen.DnRefIdeal.Run

@[expose] public section

set_option maxRecDepth 16384

noncomputable section

namespace Cert.Dn.Hand

open Idealize.ShloMosaic Idealize.ShloMosaic.StableHlo Idealize.ShloMosaic.TcCoe Idealize.SL.Sem Cert.Unwritten

theorem quiet : quiescent_Dn := fun m ρ _ => Cert.Dn.Gen.frame m ρ
theorem quiet_ideal : quiescent_DnIdeal := fun m ρ _ => Cert.DnIdeal.Gen.frame m ρ
variable {F : FTy → Type} [FloatOps F]

open Cert.DnRefIdeal Cert.DnRefIdeal.Gen Cert.DnRefIdeal.Value in
/-- The buffers that `hostOps0_7` writes, in order. -/
abbrev hostOps0_7_Wr : List (Ref Cert.DnRefIdeal.sig .tc) := [main_v100, main_v101, main_v102, main_cst_11, main_v103, main_v104, main_cst_12, main_v105, main_v106, main_cst_13, main_v107, main_v108, main_v109, main_v110, main_v111, main_v112, main_v113, main_v114, main_v115, main_v116, main_v117]
open Cert.DnRefIdeal Cert.DnRefIdeal.Gen Cert.DnRefIdeal.Value in
theorem hostOps0_7_wr : (hostOps0_7 : List (HloOp Cert.DnRefIdeal.τ Cert.DnRefIdeal.sig (Elt F))).Forall fun op =>
    op.writes ⊆ (hostOps0_7_Wr.map (Proc.devRef (τ := Cert.DnRefIdeal.τ) .tc)).toFinset :=
  StableHlo.forall_writes_sub_of_map rfl

open Cert.DnRefIdeal Cert.DnRefIdeal.Gen Cert.DnRefIdeal.Value in
/-- The buffers that `hostOps0_8` writes, in order. -/
abbrev hostOps0_8_Wr : List (Ref Cert.DnRefIdeal.sig .tc) := [main_call9_v0, main_call9_v1, main_call9_cst, main_call9_v2, main_call9_v3, main_call9_cst_0, main_call9_v4, main_call9_v5, main_v118]
open Cert.DnRefIdeal Cert.DnRefIdeal.Gen Cert.DnRefIdeal.Value in
theorem hostOps0_8_wr : (hostOps0_8 : List (HloOp Cert.DnRefIdeal.τ Cert.DnRefIdeal.sig (Elt F))).Forall fun op =>
    op.writes ⊆ (hostOps0_8_Wr.map (Proc.devRef (τ := Cert.DnRefIdeal.τ) .tc)).toFinset :=
  StableHlo.forall_writes_sub_of_map rfl

open Cert.DnRefIdeal Cert.DnRefIdeal.Gen Cert.DnRefIdeal.Value in
/-- The buffers that `hostOps0_9` writes, in order. -/
abbrev hostOps0_9_Wr : List (Ref Cert.DnRefIdeal.sig .tc) := [main_v119, main_v120, main_v121]
open Cert.DnRefIdeal Cert.DnRefIdeal.Gen Cert.DnRefIdeal.Value in
theorem hostOps0_9_wr : (hostOps0_9 : List (HloOp Cert.DnRefIdeal.τ Cert.DnRefIdeal.sig (Elt F))).Forall fun op =>
    op.writes ⊆ (hostOps0_9_Wr.map (Proc.devRef (τ := Cert.DnRefIdeal.τ) .tc)).toFinset :=
  StableHlo.forall_writes_sub_of_map rfl

/-- The arguments of the reference. -/
def argRefs : List (Ref Cert.DnRefIdeal.sig .tc) :=
  [Cert.DnRefIdeal.main_arg0, Cert.DnRefIdeal.main_arg1, Cert.DnRefIdeal.main_arg2, Cert.DnRefIdeal.main_arg3,
    Cert.DnRefIdeal.main_arg4, Cert.DnRefIdeal.main_arg5]

open Cert.DnRefIdeal Cert.DnRefIdeal.Gen Cert.DnRefIdeal.Value in
/-- The reference leaves its arguments as they were. -/
theorem ref_keeps (m : (ℓ : Loc Cert.DnRefIdeal.nD Cert.DnRefIdeal.τ Cert.DnRefIdeal.sig) → Buf (Elt F) ℓ)
    (c : Dev Cert.DnRefIdeal.nD) (b : Ref Cert.DnRefIdeal.sig .tc) (hb : b ∈ argRefs) :
    finalContents condOps preI bodyI postI 8256 m c (Proc.devRef .tc b) = m ((c.tc : Thread Cert.DnRefIdeal.nD Cert.DnRefIdeal.τ).loc b) := by
  have hpost : ∀ ops ∈ postI (F := F), ∀ op ∈ ops, Proc.devRef .tc b ∉ op.writes := by
    intro ops ho
    fin_cases ho
    · exact unwritten hostOps0_7_wr ((by decide +kernel : ∀ b ∈ argRefs, b ∉ hostOps0_7_Wr) b hb)
    · exact unwritten hostOps0_8_wr ((by decide +kernel : ∀ b ∈ argRefs, b ∉ hostOps0_8_Wr) b hb)
    · exact unwritten hostOps0_9_wr ((by decide +kernel : ∀ b ∈ argRefs, b ∉ hostOps0_9_Wr) b hb)
  have hbody : ∀ ops ∈ bodyI (F := F), ∀ op ∈ ops, Proc.devRef .tc b ∉ op.writes := by
    intro ops ho
    fin_cases ho
    · exact unwritten while0Ops0_writes ((by decide +kernel : ∀ b ∈ argRefs, b ∉ while0Ops0_W) b hb)
    · exact unwritten while0Ops0_1_writes ((by decide +kernel : ∀ b ∈ argRefs, b ∉ while0Ops0_1_W) b hb)
    · exact unwritten while0Ops0_2_writes ((by decide +kernel : ∀ b ∈ argRefs, b ∉ while0Ops0_2_W) b hb)
    · exact unwritten while0Ops0_3_writes ((by decide +kernel : ∀ b ∈ argRefs, b ∉ while0Ops0_3_W) b hb)
    · exact unwritten while0Ops0_4_writes ((by decide +kernel : ∀ b ∈ argRefs, b ∉ while0Ops0_4_W) b hb)
    · exact unwritten while0Ops0_5_writes ((by decide +kernel : ∀ b ∈ argRefs, b ∉ while0Ops0_5_W) b hb)
    · exact unwritten while0Ops0_6_writes ((by decide +kernel : ∀ b ∈ argRefs, b ∉ while0Ops0_6_W) b hb)
    · exact unwritten while0Ops0_7_writes ((by decide +kernel : ∀ b ∈ argRefs, b ∉ while0Ops0_7_W) b hb)
  have hpre : ∀ ops ∈ preI (F := F), ∀ op ∈ ops, Proc.devRef .tc b ∉ op.writes := by
    intro ops ho
    fin_cases ho
    · exact unwritten hostOps0_writes ((by decide +kernel : ∀ b ∈ argRefs, b ∉ hostOps0_W) b hb)
    · exact unwritten hostOps0_1_writes ((by decide +kernel : ∀ b ∈ argRefs, b ∉ hostOps0_1_W) b hb)
    · exact unwritten hostOps0_2_writes ((by decide +kernel : ∀ b ∈ argRefs, b ∉ hostOps0_2_W) b hb)
    · exact unwritten hostOps0_3_writes ((by decide +kernel : ∀ b ∈ argRefs, b ∉ hostOps0_3_W) b hb)
    · exact unwritten hostOps0_4_writes ((by decide +kernel : ∀ b ∈ argRefs, b ∉ hostOps0_4_W) b hb)
    · exact unwritten hostOps0_5_writes ((by decide +kernel : ∀ b ∈ argRefs, b ∉ hostOps0_5_W) b hb)
    · exact unwritten hostOps0_6_writes ((by decide +kernel : ∀ b ∈ argRefs, b ∉ hostOps0_6_W) b hb)
  have hcond : ∀ V : Valuation Cert.DnRefIdeal.τ Cert.DnRefIdeal.sig (Elt F), StableHlo.after condOps V (Proc.devRef .tc b) = V (Proc.devRef .tc b) :=
    fun V => StableHlo.after_of_forall_not_mem condOps V
      (unwritten condOps_writes ((by decide +kernel : ∀ b ∈ argRefs, b ∉ condOps_W) b hb))
  have htrips : ∀ k, atTrip condOps bodyI (entryContents preI m) k c (Proc.devRef .tc b) = entryContents preI m c (Proc.devRef .tc b) := by
    intro k
    induction k with
    | zero => rfl
    | succ k ih => exact (kept_through bodyI _ hbody _).trans ((hcond _).trans ih)
  exact (kept_through postI _ hpost _).trans ((hcond _).trans ((htrips 8256).trans ((kept_through preI _ hpre _).trans rfl)))

theorem quiet_ref_ideal : quiescent_DnRefIdeal := by
  intro m ρ _
  refine (θ_run Cert.DnRefIdeal.defs _ _).mono (fun r h => ⟨fun c => ?_, sem_eq_zero_of_no_sems (by decide) r.2⟩)
    (Cert.DnRefIdeal.Value.run_fold (F := Ideal) m ρ)
  have k : ∀ b : Ref Cert.DnRefIdeal.sig .tc, b ∈ argRefs →
      (Proc.devRef .tc b : DevRef Cert.DnRefIdeal.τ Cert.DnRefIdeal.sig).isScoped = false →
      r.2.mem ((c.tc : Thread Cert.DnRefIdeal.nD Cert.DnRefIdeal.τ).loc b) = m ((c.tc : Thread Cert.DnRefIdeal.nD Cert.DnRefIdeal.τ).loc b) :=
    fun b hb hs => (h c b hs).trans (ref_keeps m c b hb)
  exact ⟨k _ (by decide : Cert.DnRefIdeal.main_arg0 ∈ argRefs) rfl, k _ (by decide : Cert.DnRefIdeal.main_arg1 ∈ argRefs) rfl, k _ (by decide : Cert.DnRefIdeal.main_arg2 ∈ argRefs) rfl, k _ (by decide : Cert.DnRefIdeal.main_arg3 ∈ argRefs) rfl, k _ (by decide : Cert.DnRefIdeal.main_arg4 ∈ argRefs) rfl, k _ (by decide : Cert.DnRefIdeal.main_arg5 ∈ argRefs) rfl⟩

theorem same : preserves_Dn_DnIdeal := trivial

end Cert.Dn.Hand

end
-- ==== Proof.lean ====
/- The proof of the claim, call by call. -/
module

public import proofs.«01_k».proof.Defs
public import proofs.«01_k».proof.Proof.WprepClaim
public import proofs.«01_k».proof.Proof.DenseClaim
public import proofs.«01_k».proof.Proof.InprojClaim
public import proofs.«01_k».proof.Proof.SsdClaim
public import proofs.«01_k».proof.Proof.DnClaim

@[expose] public section

noncomputable section

namespace Cert.Proof

theorem claim : Cert.Claim := ⟨Cert.Wprep.Gen.facts, Cert.WprepIdeal.Gen.facts, Cert.WprepRefIdeal.Gen.facts, Cert.WprepRef.Gen.facts,
  Cert.Dense.Gen.facts, Cert.DenseIdeal.Gen.facts, Cert.DenseRefIdeal.Gen.facts,
  Cert.Inproj.Gen.facts, Cert.InprojIdeal.Gen.facts, Cert.InprojRefIdeal.Gen.facts,
  Cert.Ssd.Gen.facts, Cert.SsdIdeal.Gen.facts, Cert.SsdRefIdeal.Gen.facts,
  Cert.Dn.Gen.facts, Cert.DnIdeal.Gen.facts, Cert.DnRefIdeal.Gen.facts,
  Cert.Wprep.Hand.quiet, Cert.Wprep.Hand.quiet_ideal, Cert.Wprep.Hand.quiet_ref_ideal, Cert.Wprep.Hand.quiet_ref,
  Cert.Dense.Hand.quiet, Cert.Dense.Hand.quiet_ideal, Cert.Dense.Hand.quiet_ref_ideal,
  Cert.Inproj.Hand.quiet, Cert.Inproj.Hand.quiet_ideal, Cert.Inproj.Hand.quiet_ref_ideal,
  Cert.Ssd.Hand.quiet, Cert.Ssd.Hand.quiet_ideal, Cert.Ssd.Hand.quiet_ref_ideal,
  Cert.Dn.Hand.quiet, Cert.Dn.Hand.quiet_ideal, Cert.Dn.Hand.quiet_ref_ideal,
  Cert.Wprep.Hand.same, Cert.Wprep.Hand.ideal_eq, Cert.Wprep.Hand.bits_eq,
  Cert.Dense.Hand.same, Cert.Dense.Hand.ideal_eq,
  Cert.Inproj.Hand.same, Cert.Inproj.Hand.ideal_eq,
  Cert.Ssd.Hand.same,
  Cert.Dn.Hand.same⟩

end Cert.Proof

end
